-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_at_most_20 [hPre_lengths_at_most_20 : Cert.Pre_lengths_at_most_20.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_at_most_20.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_at_most_20 [hPre_lengths_at_most_20 : Cert.Pre_lengths_at_most_20.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_at_most_20.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_lengths_at_most_20 [hKernelIdeal : Cert.KernelIdeal.Facts] [hPre_lengths_at_most_20 : Cert.Pre_lengths_at_most_20.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_at_most_20 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_lengths_at_most_20 [hReferenceIdeal : Cert.ReferenceIdeal.Facts] [hPre_lengths_at_most_20 : Cert.Pre_lengths_at_most_20.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_at_most_20 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_lengths_at_most_20 [hKernelIdeal : Cert.KernelIdeal.Facts] [hReferenceIdeal : Cert.ReferenceIdeal.Facts] [hPre_lengths_at_most_20 : Cert.Pre_lengths_at_most_20.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_at_most_20 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_lengths_at_most_20 : Cert.Pre_lengths_at_most_20.Facts),
    quiescent_Kernel (hKernel := hKernel)
    ∧ quiescent_KernelIdeal (hKernelIdeal := hKernelIdeal)
    ∧ quiescent_KernelIdeal_pre_lengths_at_most_20 (hKernelIdeal := hKernelIdeal) (hPre_lengths_at_most_20 := hPre_lengths_at_most_20)
    ∧ quiescent_ReferenceIdeal (hReferenceIdeal := hReferenceIdeal)
    ∧ quiescent_ReferenceIdeal_pre_lengths_at_most_20 (hReferenceIdeal := hReferenceIdeal) (hPre_lengths_at_most_20 := hPre_lengths_at_most_20)
    ∧ preserves_Kernel_KernelIdeal
    ∧ algebraic_KernelIdeal_ReferenceIdeal_pre_lengths_at_most_20 (hKernelIdeal := hKernelIdeal) (hReferenceIdeal := hReferenceIdeal) (hPre_lengths_at_most_20 := hPre_lengths_at_most_20)
-- ==== Pre_lengths_at_most_20.lean ====
abbrev S8x512x128 : Shape := ⟨3, ![8, 512, 128]⟩
abbrev S8x512x20x64 : Shape := ⟨4, ![8, 512, 20, 64]⟩
abbrev S8x512x4 : Shape := ⟨3, ![8, 512, 4]⟩
abbrev S128x128 : Shape := ⟨2, ![128, 128]⟩
abbrev S128 : Shape := ⟨1, ![128]⟩
abbrev S512x64 : Shape := ⟨2, ![512, 64]⟩
abbrev S512x128 : Shape := ⟨2, ![512, 128]⟩
abbrev S512 : Shape := ⟨1, ![512]⟩
abbrev S256x256 : Shape := ⟨2, ![256, 256]⟩
abbrev S256 : Shape := ⟨1, ![256]⟩
abbrev S8x512x1 : Shape := ⟨3, ![8, 512, 1]⟩
abbrev S8x512 : Shape := ⟨2, ![8, 512]⟩
abbrev S_ : Shape := ⟨0, ![]⟩

class Facts : Prop where
  slices_S8x512x4_S8x512x1_0_0_3 : S8x512x4.Slices ![0, 0, 3] S8x512x1
  shapeCasts_S8x512x1_S8x512 : S8x512x1.ShapeCasts S8x512
  bcast_S_S8x512 : S_.BroadcastsInDim S8x512 (![] : Fin 0 → Fin S8x512.rank)

variable [Facts]

def fn {F : FTy → Type} [FloatOps F] (main_arg0 : FVec F S8x512x128 .f32) (main_arg1 : FVec F S8x512x20x64 .f32) (main_arg2 : IVec S8x512x4 32) (main_arg3 : FVec F S128x128 .f32) (main_arg4 : FVec F S128 .f32) (main_arg5 : FVec F S512x64 .f32) (main_arg6 : FVec F S512x128 .f32) (main_arg7 : FVec F S512 .f32) (main_arg8 : FVec F S512 .f32) (main_arg9 : FVec F S256x256 .f32) (main_arg10 : FVec F S256 .f32) (main_arg11 : FVec F S256 .f32) (main_arg12 : FVec F S256 .f32) : IVec S8x512 1 :=
  let main_v0 : IVec S8x512x1 32 := (extractStridedSlice S8x512x1 ![0, 0, 3] · slices_S8x512x4_S8x512x1_0_0_3) main_arg2
  let main_v1 : IVec S8x512 32 := shapeCast S8x512 main_v0 shapeCasts_S8x512x1_S8x512
  let main_c : IVec S_ 32 := constantI S_ 32 20#32
  let main_v2 : IVec S8x512 32 := broadcastInDim S8x512 ![] bcast_S_S8x512 main_c
  let main_v3 : IVec S8x512 1 := cmpi .sle main_v1 main_v2
  main_v3
-- ==== Kernel.lean ====
abbrev S8x512x128 : Shape := ⟨3, ![8, 512, 128]⟩
abbrev S8x512x20x64 : Shape := ⟨4, ![8, 512, 20, 64]⟩
abbrev S8x512x4 : Shape := ⟨3, ![8, 512, 4]⟩
abbrev S128x128 : Shape := ⟨2, ![128, 128]⟩
abbrev S128 : Shape := ⟨1, ![128]⟩
abbrev S512x64 : Shape := ⟨2, ![512, 64]⟩
abbrev S512x128 : Shape := ⟨2, ![512, 128]⟩
abbrev S512 : Shape := ⟨1, ![512]⟩
abbrev S256x256 : Shape := ⟨2, ![256, 256]⟩
abbrev S256 : Shape := ⟨1, ![256]⟩
abbrev S4096x128 : Shape := ⟨2, ![4096, 128]⟩
abbrev S4096x20x64 : Shape := ⟨3, ![4096, 20, 64]⟩
abbrev S8x512x1 : Shape := ⟨3, ![8, 512, 1]⟩
abbrev S8x512 : Shape := ⟨2, ![8, 512]⟩
abbrev S4096x1 : Shape := ⟨2, ![4096, 1]⟩
abbrev S_ : Shape := ⟨0, ![]⟩
abbrev S512x1 : Shape := ⟨2, ![512, 1]⟩
abbrev S64x512 : Shape := ⟨2, ![64, 512]⟩
abbrev S128x512 : Shape := ⟨2, ![128, 512]⟩
abbrev S1x512 : Shape := ⟨2, ![1, 512]⟩
abbrev S1x128 : Shape := ⟨2, ![1, 128]⟩
abbrev S1x256 : Shape := ⟨2, ![1, 256]⟩
abbrev S4096x256 : Shape := ⟨2, ![4096, 256]⟩
abbrev S1024x128 : Shape := ⟨2, ![1024, 128]⟩
abbrev S1024x20x64 : Shape := ⟨3, ![1024, 20, 64]⟩
abbrev S1024x256 : Shape := ⟨2, ![1024, 256]⟩
abbrev S8x128 : Shape := ⟨2, ![8, 128]⟩
abbrev S20x1024x64 : Shape := ⟨3, ![20, 1024, 64]⟩
abbrev S20480x64 : Shape := ⟨2, ![20480, 64]⟩
abbrev S1024x64 : Shape := ⟨2, ![1024, 64]⟩
abbrev S1024x512 : Shape := ⟨2, ![1024, 512]⟩
abbrev S1024 : Shape := ⟨1, ![1024]⟩
abbrev S1024x1 : Shape := ⟨2, ![1024, 1]⟩

abbrev nBuf : Space → Nat
  | .hbm => 49
  | .vmem => 18
  | .smem => 0
  | _ => 0

abbrev bufTy : (tb : Table) → Fin (tcTables nBuf tb) → BufTy
  | .hbm, ⟨0, _⟩ => ⟨S8x512x128, .f32⟩
  | .hbm, ⟨1, _⟩ => ⟨S8x512x20x64, .f32⟩
  | .hbm, ⟨2, _⟩ => ⟨S8x512x4, .i32⟩
  | .hbm, ⟨3, _⟩ => ⟨S128x128, .f32⟩
  | .hbm, ⟨4, _⟩ => ⟨S128, .f32⟩
  | .hbm, ⟨5, _⟩ => ⟨S512x64, .f32⟩
  | .hbm, ⟨6, _⟩ => ⟨S512x128, .f32⟩
  | .hbm, ⟨7, _⟩ => ⟨S512, .f32⟩
  | .hbm, ⟨8, _⟩ => ⟨S512, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S4096x128, .f32⟩
  | .hbm, ⟨14, _⟩ => ⟨S4096x20x64, .f32⟩
  | .hbm, ⟨15, _⟩ => ⟨S8x512x1, .i32⟩
  | .hbm, ⟨16, _⟩ => ⟨S8x512, .i32⟩
  | .hbm, ⟨17, _⟩ => ⟨S4096x1, .i32⟩
  | .hbm, ⟨18, _⟩ => ⟨S4096x128, .i32⟩
  | .hbm, ⟨19, _⟩ => ⟨S128x128, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S512, .f32⟩
  | .hbm, ⟨32, _⟩ => ⟨S512x1, .f32⟩
  | .hbm, ⟨33, _⟩ => ⟨S512x64, .f32⟩
  | .hbm, ⟨34, _⟩ => ⟨S512x64, .f32⟩
  | .hbm, ⟨35, _⟩ => ⟨S64x512, .f32⟩
  | .hbm, ⟨36, _⟩ => ⟨S512x1, .f32⟩
  | .hbm, ⟨37, _⟩ => ⟨S512x128, .f32⟩
  | .hbm, ⟨38, _⟩ => ⟨S512x128, .f32⟩
  | .hbm, ⟨39, _⟩ => ⟨S128x512, .f32⟩
  | .hbm, ⟨40, _⟩ => ⟨S512, .f32⟩
  | .hbm, ⟨41, _⟩ => ⟨S512, .f32⟩
  | .hbm, ⟨42, _⟩ => ⟨S1x512, .f32⟩
  | .hbm, ⟨43, _⟩ => ⟨S256x256, .f32⟩
  | .hbm, ⟨44, _⟩ => ⟨S1x128, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S4096x256, .f32⟩
  | .local _ .vmem, ⟨0, _⟩ => ⟨S1024x128, .i32⟩
  | .local _ .vmem, ⟨1, _⟩ => ⟨S1024x128, .i32⟩
  | .local _ .vmem, ⟨2, _⟩ => ⟨S1024x128, .f32⟩
  | .local _ .vmem, ⟨3, _⟩ => ⟨S1024x128, .f32⟩
  | .local _ .vmem, ⟨4, _⟩ => ⟨S1024x20x64, .f32⟩
  | .local _ .vmem, ⟨5, _⟩ => ⟨S1024x20x64, .f32⟩
  | .local _ .vmem, ⟨6, _⟩ => ⟨S128x128, .f32⟩
  | .local _ .vmem, ⟨7, _⟩ => ⟨S1x128, .f32⟩
  | .local _ .vmem, ⟨8, _⟩ => ⟨S64x512, .f32⟩
  | .local _ .vmem, ⟨9, _⟩ => ⟨S128x512, .f32⟩
  | .local _ .vmem, ⟨10, _⟩ => ⟨S1x512, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1024x256, .f32⟩
  | .local _ .vmem, ⟨16, _⟩ => ⟨S1024x256, .f32⟩
  | .local _ .vmem, ⟨17, _⟩ => ⟨S8x128, .f32⟩
  | _, _ => ⟨S8x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x20x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x512x128 : Shape := ⟨3, ![8, 512, 128]⟩
abbrev S8x512x20x64 : Shape := ⟨4, ![8, 512, 20, 64]⟩
abbrev S8x512x4 : Shape := ⟨3, ![8, 512, 4]⟩
abbrev S128x128 : Shape := ⟨2, ![128, 128]⟩
abbrev S128 : Shape := ⟨1, ![128]⟩
abbrev S512x64 : Shape := ⟨2, ![512, 64]⟩
abbrev S512x128 : Shape := ⟨2, ![512, 128]⟩
abbrev S512 : Shape := ⟨1, ![512]⟩
abbrev S256x256 : Shape := ⟨2, ![256, 256]⟩
abbrev S256 : Shape := ⟨1, ![256]⟩
abbrev S4096x20x64 : Shape := ⟨3, ![4096, 20, 64]⟩
abbrev S8x512x1 : Shape := ⟨3, ![8, 512, 1]⟩
abbrev S8x512 : Shape := ⟨2, ![8, 512]⟩
abbrev S4096 : Shape := ⟨1, ![4096]⟩
abbrev S_ : Shape := ⟨0, ![]⟩
abbrev S4096x128 : Shape := ⟨2, ![4096, 128]⟩
abbrev S20x4096x64 : Shape := ⟨3, ![20, 4096, 64]⟩
abbrev S20 : Shape := ⟨1, ![20]⟩
abbrev S1x4096x64 : Shape := ⟨3, ![1, 4096, 64]⟩
abbrev S4096x64 : Shape := ⟨2, ![4096, 64]⟩
abbrev S1 : Shape := ⟨1, ![1]⟩
abbrev S64x512 : Shape := ⟨2, ![64, 512]⟩
abbrev S4096x512 : Shape := ⟨2, ![4096, 512]⟩
abbrev S128x512 : Shape := ⟨2, ![128, 512]⟩
abbrev S1x512 : Shape := ⟨2, ![1, 512]⟩
abbrev S4096x1 : Shape := ⟨2, ![4096, 1]⟩
abbrev S1x128 : Shape := ⟨2, ![1, 128]⟩
abbrev S4096x256 : Shape := ⟨2, ![4096, 256]⟩
abbrev S1x256 : Shape := ⟨2, ![1, 256]⟩

abbrev nBuf : Space → Nat
  | .hbm => 138
  | .vmem => 0
  | .smem => 0
  | _ => 0

abbrev hbmTy0_0 (i : Nat) : BufTy := match i % 128 with
  | 0 => ⟨S8x512x128, .f32⟩
  | 1 => ⟨S8x512x20x64, .f32⟩
  | 2 => ⟨S8x512x4, .i32⟩
  | 3 => ⟨S128x128, .f32⟩
  | 4 => ⟨S128, .f32⟩
  | 5 => ⟨S512x64, .f32⟩
  | 6 => ⟨S512x128, .f32⟩
  | 7 => ⟨S512, .f32⟩
  | 8 => ⟨S512, .f32⟩
  | 9 => ⟨S256x256, .f32⟩
  | 10 => ⟨S256, .f32⟩
  | 11 => ⟨S256, .f32⟩
  | 12 => ⟨S256, .f32⟩
  | 13 => ⟨S4096x20x64, .f32⟩
  | 14 => ⟨S8x512x1, .i32⟩
  | 15 => ⟨S8x512, .i32⟩
  | 16 => ⟨S4096, .i32⟩
  | 17 => ⟨S_, .f32⟩
  | 18 => ⟨S4096x128, .f32⟩
  | 19 => ⟨S_, .f32⟩
  | 20 => ⟨S4096x128, .f32⟩
  | 21 => ⟨S20x4096x64, .f32⟩
  | 22 => ⟨S20, .i32⟩
  | 23 => ⟨S_, .i32⟩
  | 24 => ⟨S20x4096x64, .f32⟩
  | 25 => ⟨S20, .i32⟩
  | 26 => ⟨S512x64, .f32⟩
  | 27 => ⟨S512x128, .f32⟩
  | 28 => ⟨S512, .f32⟩
  | 29 => ⟨S512, .f32⟩
  | 30 => ⟨S4096, .i32⟩
  | 31 => ⟨S_, .i32⟩
  | 32 => ⟨S4096x128, .f32⟩
  | 33 => ⟨S4096x128, .f32⟩
  | 34 => ⟨S_, .i32⟩
  | 35 => ⟨S_, .i1⟩
  | 36 => ⟨S_, .i32⟩
  | 37 => ⟨S_, .i32⟩
  | 38 => ⟨S1x4096x64, .f32⟩
  | 39 => ⟨S4096x64, .f32⟩
  | 40 => ⟨S1, .i32⟩
  | 41 => ⟨S_, .i32⟩
  | 42 => ⟨S64x512, .f32⟩
  | 43 => ⟨S4096x512, .f32⟩
  | 44 => ⟨S128x512, .f32⟩
  | 45 => ⟨S4096x512, .f32⟩
  | 46 => ⟨S4096x512, .f32⟩
  | 47 => ⟨S1x512, .f32⟩
  | 48 => ⟨S4096x512, .f32⟩
  | 49 => ⟨S4096x512, .f32⟩
  | 50 => ⟨S1x512, .f32⟩
  | 51 => ⟨S4096x512, .f32⟩
  | 52 => ⟨S4096x512, .f32⟩
  | 53 => ⟨S4096x128, .f32⟩
  | 54 => ⟨S4096x128, .f32⟩
  | 55 => ⟨S4096x128, .f32⟩
  | 56 => ⟨S4096x128, .f32⟩
  | 57 => ⟨S4096x128, .f32⟩
  | 58 => ⟨S4096x128, .f32⟩
  | 59 => ⟨S_, .f32⟩
  | 60 => ⟨S4096x128, .f32⟩
  | 61 => ⟨S4096x128, .f32⟩
  | 62 => ⟨S_, .f32⟩
  | 63 => ⟨S4096x128, .f32⟩
  | 64 => ⟨S4096x128, .f32⟩
  | 65 => ⟨S4096x128, .f32⟩
  | 66 => ⟨S4096x128, .f32⟩
  | 67 => ⟨S4096x128, .f32⟩
  | 68 => ⟨S_, .f32⟩
  | 69 => ⟨S4096x128, .f32⟩
  | 70 => ⟨S4096x128, .f32⟩
  | 71 => ⟨S_, .f32⟩
  | 72 => ⟨S4096x128, .f32⟩
  | 73 => ⟨S4096x128, .f32⟩
  | 74 => ⟨S4096x128, .f32⟩
  | 75 => ⟨S4096x128, .f32⟩
  | 76 => ⟨S4096x128, .f32⟩
  | 77 => ⟨S4096x128, .f32⟩
  | 78 => ⟨S4096x128, .f32⟩
  | 79 => ⟨S_, .f32⟩
  | 80 => ⟨S4096x128, .f32⟩
  | 81 => ⟨S4096x128, .f32⟩
  | 82 => ⟨S_, .f32⟩
  | 83 => ⟨S4096x128, .f32⟩
  | 84 => ⟨S4096x128, .f32⟩
  | 85 => ⟨S4096x128, .f32⟩
  | 86 => ⟨S4096x128, .f32⟩
  | 87 => ⟨S4096, .i32⟩
  | 88 => ⟨S4096, .i1⟩
  | 89 => ⟨S4096x1, .i1⟩
  | 90 => ⟨S4096x128, .i1⟩
  | 91 => ⟨S4096x128, .f32⟩
  | 92 => ⟨S4096x128, .i1⟩
  | 93 => ⟨S4096x128, .f32⟩
  | 94 => ⟨S_, .i32⟩
  | 95 => ⟨S_, .i32⟩
  | 96 => ⟨S4096x128, .f32⟩
  | 97 => ⟨S4096x128, .f32⟩
  | 98 => ⟨S1x128, .f32⟩
  | 99 => ⟨S4096x128, .f32⟩
  | 100 => ⟨S4096x128, .f32⟩
  | 101 => ⟨S_, .f32⟩
  | 102 => ⟨S4096x128, .f32⟩
  | 103 => ⟨S4096x128, .f32⟩
  | 104 => ⟨S4096x256, .f32⟩
  | 105 => ⟨S4096x256, .f32⟩
  | 106 => ⟨S1x256, .f32⟩
  | 107 => ⟨S4096x256, .f32⟩
  | 108 => ⟨S4096x256, .f32⟩
  | 109 => ⟨S_, .f32⟩
  | 110 => ⟨S4096, .f32⟩
  | 111 => ⟨S4096x1, .f32⟩
  | 112 => ⟨S_, .f32⟩
  | 113 => ⟨S4096x1, .f32⟩
  | 114 => ⟨S4096x1, .f32⟩
  | 115 => ⟨S4096x256, .f32⟩
  | 116 => ⟨S4096x256, .f32⟩
  | 117 => ⟨S4096x256, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S4096x256, .f32⟩
  | 125 => ⟨S4096x256, .f32⟩
  | 126 => ⟨S_, .f32⟩
  | 127 => ⟨S4096x1, .f32⟩
  | _ => ⟨S8x512x128, .f32⟩

abbrev hbmTy0_1 (i : Nat) : BufTy := match i % 128 with
  | 0 => ⟨S4096x1, .f32⟩
  | 1 => ⟨S4096x1, .f32⟩
  | 2 => ⟨S4096x256, .f32⟩
  | 3 => ⟨S4096x256, .f32⟩
  | 4 => ⟨S1x256, .f32⟩
  | 5 => ⟨S4096x256, .f32⟩
  | 6 => ⟨S4096x256, .f32⟩
  | 7 => ⟨S1x256, .f32⟩
  | 8 => ⟨S4096x256, .f32⟩
  | 9 => ⟨S4096x256, .f32⟩
  | _ => ⟨S8x512x128, .f32⟩

abbrev hbmTy (i : Nat) : BufTy := match i / 128 with
  | 0 => hbmTy0_0 i
  | 1 => hbmTy0_1 i
  | _ => ⟨S8x512x128, .f32⟩

abbrev bufTy : (tb : Table) → Fin (tcTables nBuf tb) → BufTy
  | .hbm, ⟨i, _⟩ => hbmTy i
  | _, _ => ⟨S8x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v8_4 : Ref sig .tc := ⟨.hbm, 28, rfl⟩
abbrev main_v8_5 : Ref sig .tc := ⟨.hbm, 29, rfl⟩
abbrev main_v8_6 : Ref sig .tc := ⟨.hbm, 30, rfl⟩
abbrev main_v8_7 : Ref sig .tc := ⟨.hbm, 31, rfl⟩
abbrev main_v8_8 : Ref sig .tc := ⟨.hbm, 32, rfl⟩
abbrev main_v8_9 : Ref sig .tc := ⟨.hbm, 33, rfl⟩
abbrev main_while0c_c_15 : Ref sig .tc := ⟨.hbm, 34, rfl⟩
abbrev main_while0c_v44 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v44 : Ref sig .tc := ⟨.hbm, 39, rfl⟩
abbrev main_while0b_call1_v0 : Ref sig .tc := ⟨.hbm, 40, rfl⟩
abbrev main_while0b_v45 : Ref sig .tc := ⟨.hbm, 41, rfl⟩
abbrev main_while0b_v46 : Ref sig .tc := ⟨.hbm, 42, rfl⟩
abbrev main_while0b_v47 : Ref sig .tc := ⟨.hbm, 43, rfl⟩
abbrev main_while0b_v48 : Ref sig .tc := ⟨.hbm, 44, rfl⟩
abbrev main_while0b_v49 : Ref sig .tc := ⟨.hbm, 45, rfl⟩
abbrev main_while0b_v50 : Ref sig .tc := ⟨.hbm, 46, rfl⟩
abbrev main_while0b_v51 : Ref sig .tc := ⟨.hbm, 47, rfl⟩
abbrev main_while0b_v52 : Ref sig .tc := ⟨.hbm, 48, rfl⟩
abbrev main_while0b_v53 : Ref sig .tc := ⟨.hbm, 49, rfl⟩
abbrev main_while0b_v54 : Ref sig .tc := ⟨.hbm, 50, rfl⟩
abbrev main_while0b_v55 : Ref sig .tc := ⟨.hbm, 51, rfl⟩
abbrev main_while0b_v56 : Ref sig .tc := ⟨.hbm, 52, rfl⟩
abbrev main_while0b_v57 : Ref sig .tc := ⟨.hbm, 53, rfl⟩
abbrev main_while0b_v58 : Ref sig .tc := ⟨.hbm, 54, rfl⟩
abbrev main_while0b_v59 : Ref sig .tc := ⟨.hbm, 55, rfl⟩
abbrev main_while0b_v60 : Ref sig .tc := ⟨.hbm, 56, rfl⟩
abbrev main_while0b_v61 : Ref sig .tc := ⟨.hbm, 57, rfl⟩
abbrev main_while0b_v62 : Ref sig .tc := ⟨.hbm, 58, rfl⟩
abbrev main_while0b_cst_15 : Ref sig .tc := ⟨.hbm, 59, rfl⟩
abbrev main_while0b_v63 : Ref sig .tc := ⟨.hbm, 60, rfl⟩
abbrev main_while0b_v64 : Ref sig .tc := ⟨.hbm, 61, rfl⟩
abbrev main_while0b_cst_16 : Ref sig .tc := ⟨.hbm, 62, rfl⟩
abbrev main_while0b_v65 : Ref sig .tc := ⟨.hbm, 63, rfl⟩
abbrev main_while0b_v66 : Ref sig .tc := ⟨.hbm, 64, rfl⟩
abbrev main_while0b_v67 : Ref sig .tc := ⟨.hbm, 65, rfl⟩
abbrev main_while0b_v68 : Ref sig .tc := ⟨.hbm, 66, rfl⟩
abbrev main_while0b_v69 : Ref sig .tc := ⟨.hbm, 67, rfl⟩
abbrev main_while0b_cst_17 : Ref sig .tc := ⟨.hbm, 68, rfl⟩
abbrev main_while0b_v70 : Ref sig .tc := ⟨.hbm, 69, rfl⟩
abbrev main_while0b_v71 : Ref sig .tc := ⟨.hbm, 70, rfl⟩
abbrev main_while0b_cst_18 : Ref sig .tc := ⟨.hbm, 71, rfl⟩
abbrev main_while0b_v72 : Ref sig .tc := ⟨.hbm, 72, rfl⟩
abbrev main_while0b_v73 : Ref sig .tc := ⟨.hbm, 73, rfl⟩
abbrev main_while0b_v74 : Ref sig .tc := ⟨.hbm, 74, rfl⟩
abbrev main_while0b_v75 : Ref sig .tc := ⟨.hbm, 75, rfl⟩
abbrev main_while0b_v76 : Ref sig .tc := ⟨.hbm, 76, rfl⟩
abbrev main_while0b_v77 : Ref sig .tc := ⟨.hbm, 77, rfl⟩
abbrev main_while0b_v78 : Ref sig .tc := ⟨.hbm, 78, rfl⟩
abbrev main_while0b_cst_19 : Ref sig .tc := ⟨.hbm, 79, rfl⟩
abbrev main_while0b_v79 : Ref sig .tc := ⟨.hbm, 80, rfl⟩
abbrev main_while0b_v80 : Ref sig .tc := ⟨.hbm, 81, rfl⟩
abbrev main_while0b_cst_20 : Ref sig .tc := ⟨.hbm, 82, rfl⟩
abbrev main_while0b_v81 : Ref sig .tc := ⟨.hbm, 83, rfl⟩
abbrev main_while0b_v82 : Ref sig .tc := ⟨.hbm, 84, rfl⟩
abbrev main_while0b_v83 : Ref sig .tc := ⟨.hbm, 85, rfl⟩
abbrev main_while0b_v84 : Ref sig .tc := ⟨.hbm, 86, rfl⟩
abbrev main_while0b_v85 : Ref sig .tc := ⟨.hbm, 87, rfl⟩
abbrev main_while0b_v86 : Ref sig .tc := ⟨.hbm, 88, rfl⟩
abbrev main_while0b_v87 : Ref sig .tc := ⟨.hbm, 89, rfl⟩
abbrev main_while0b_call2_v0 : Ref sig .tc := ⟨.hbm, 90, rfl⟩
abbrev main_while0b_v88 : Ref sig .tc := ⟨.hbm, 91, rfl⟩
abbrev main_while0b_call3_v0 : Ref sig .tc := ⟨.hbm, 92, rfl⟩
abbrev main_while0b_v89 : Ref sig .tc := ⟨.hbm, 93, rfl⟩
abbrev main_while0b_c_21 : Ref sig .tc := ⟨.hbm, 94, rfl⟩
abbrev main_while0b_v90 : Ref sig .tc := ⟨.hbm, 95, rfl⟩
abbrev main_v9 : Ref sig .tc := ⟨.hbm, 96, rfl⟩
abbrev main_v10 : Ref sig .tc := ⟨.hbm, 97, rfl⟩
abbrev main_v11 : Ref sig .tc := ⟨.hbm, 98, rfl⟩
abbrev main_v12 : Ref sig .tc := ⟨.hbm, 99, rfl⟩
abbrev main_v13 : Ref sig .tc := ⟨.hbm, 100, rfl⟩
abbrev main_call4_cst : Ref sig .tc := ⟨.hbm, 101, rfl⟩
abbrev main_call4_v0 : Ref sig .tc := ⟨.hbm, 102, rfl⟩
abbrev main_v14 : Ref sig .tc := ⟨.hbm, 103, rfl⟩
abbrev main_v15 : Ref sig .tc := ⟨.hbm, 104, rfl⟩
abbrev main_v16 : Ref sig .tc := ⟨.hbm, 105, rfl⟩
abbrev main_v17 : Ref sig .tc := ⟨.hbm, 106, rfl⟩
abbrev main_v18 : Ref sig .tc := ⟨.hbm, 107, rfl⟩
abbrev main_v19 : Ref sig .tc := ⟨.hbm, 108, rfl⟩
abbrev main_cst_1 : Ref sig .tc := ⟨.hbm, 109, rfl⟩
abbrev main_v20 : Ref sig .tc := ⟨.hbm, 110, rfl⟩
abbrev main_v21 : Ref sig .tc := ⟨.hbm, 111, rfl⟩
abbrev main_cst_2 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_cst_3 : Ref sig .tc := ⟨.hbm, 118, rfl⟩
abbrev main_v27 : Ref sig .tc := ⟨.hbm, 119, rfl⟩
abbrev main_v28 : Ref sig .tc := ⟨.hbm, 120, rfl⟩
abbrev main_cst_4 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_cst_5 : Ref sig .tc := ⟨.hbm, 126, rfl⟩
abbrev main_v33 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩

abbrev nD : Nat := 1
abbrev τ : Topo := Topo.v7x

variable {F : FTy → Type} [FloatOps F]

abbrev main_while0_count : Scf.Loop 32 := ⟨0#32, 20#32, 1#32⟩
-- ==== Proof.Rows.lean ====
module

public import Idealize.ShloMosaic.Lib.IdealHost

@[expose] public section

noncomputable section

/-! The mathematics of one row over the extended reals: the LSTM recursion over a word's characters,
the dense layer with its normalisation, and the identities that join the kernel's way of computing them
to the reference's. -/

namespace Cert.Rows

open Idealize.ShloMosaic

/-! ## The recursion -/

/-- The weights and biases of the LSTM, its four gates laid one after another. -/
structure Weights where
  wi : Fin 512 → Fin 64 → EReal
  wh : Fin 512 → Fin 128 → EReal
  bi : Fin 512 → EReal
  bh : Fin 512 → EReal

/-- Lane `j` of gate `g`. -/
def lane (g : Fin 4) (j : Fin 128) : Fin 512 := ⟨128 * g.1 + j.1, by omega⟩

/-- A gate's pre-activation. -/
def gate (w : Weights) (x : Fin 64 → EReal) (h : Fin 128 → EReal) (k : Fin 512) : EReal :=
  ((∑ i, x i * w.wi k i) + ∑ j, h j * w.wh k j) + w.bi k + w.bh k

/-- The cell state after a step. -/
def cNext (w : Weights) (x : Fin 64 → EReal) (h c : Fin 128 → EReal) (j : Fin 128) : EReal :=
  Ideal.logistic (gate w x h (lane 1 j)) * c j
    + Ideal.logistic (gate w x h (lane 0 j)) * Ideal.tanh (gate w x h (lane 2 j))

/-- The hidden state after a step. -/
def hNext (w : Weights) (x : Fin 64 → EReal) (h c : Fin 128 → EReal) (j : Fin 128) : EReal :=
  Ideal.logistic (gate w x h (lane 3 j)) * Ideal.tanh (cNext w x h c j)

/-- Hidden and cell state after `n` steps. -/
def run (w : Weights) (x : ℕ → Fin 64 → EReal) : ℕ → (Fin 128 → EReal) × (Fin 128 → EReal)
  | 0 => (fun _ => 0, fun _ => 0)
  | n + 1 => (hNext w (x n) (run w x n).1 (run w x n).2, cNext w (x n) (run w x n).1 (run w x n).2)

/-- The same, a step past the length `L` leaving the state as it was. -/
def masked (w : Weights) (x : ℕ → Fin 64 → EReal) (L : ℤ) : ℕ → (Fin 128 → EReal) × (Fin 128 → EReal)
  | 0 => (fun _ => 0, fun _ => 0)
  | n + 1 => if (n : ℤ) < L then
      (hNext w (x n) (masked w x L n).1 (masked w x L n).2, cNext w (x n) (masked w x L n).1 (masked w x L n).2)
    else masked w x L n

/-- The hidden state picked when the number of steps meets the length `L`, zero before that. -/
def picked (w : Weights) (x : ℕ → Fin 64 → EReal) (L : ℤ) : ℕ → Fin 128 → EReal
  | 0 => fun _ => 0
  | n + 1 => if L = (n : ℤ) + 1 then (run w x (n + 1)).1 else picked w x L n

theorem masked_eq_run (w : Weights) (x : ℕ → Fin 64 → EReal) (L : ℤ) (n : ℕ) (h : (n : ℤ) ≤ L) : masked w x L n = run w x n := by
  induction n with
  | zero => rfl
  | succ n ih =>
    have h' : (n : ℤ) < L := by push_cast at h; omega
    have e := ih (by omega)
    simp only [masked, run, if_pos h', e]

theorem masked_stays (w : Weights) (x : ℕ → Fin 64 → EReal) (L : ℤ) (k n : ℕ) (h : L ≤ k) : masked w x L (k + n) = masked w x L k := by
  induction n with
  | zero => rfl
  | succ n ih =>
    have h' : ¬ (((k + n : ℕ) : ℤ) < L) := by push_cast; omega
    rw [← Nat.add_assoc, masked, if_neg h', ih]

theorem picked_eq (w : Weights) (x : ℕ → Fin 64 → EReal) (L : ℤ) (n : ℕ) :
    picked w x L n = if 1 ≤ L ∧ L ≤ n then (run w x L.toNat).1 else fun _ => 0 := by
  induction n with
  | zero => rw [if_neg (by push_cast; omega)]; rfl
  | succ n ih =>
    rw [picked, ih]
    split_ifs with h1 h2 h3 h4 h5
    · rw [show L.toNat = n + 1 by omega]
    · push_cast at h2; omega
    · rfl
    · push_cast at h4; omega
    · push_cast at h5; omega
    · rfl

/-- Of a row no longer than `N` steps, the masked recursion ends on what the plain one picks. -/
theorem masked_eq_picked (w : Weights) (x : ℕ → Fin 64 → EReal) (L : ℤ) (N : ℕ) (h : L ≤ N) :
    (masked w x L N).1 = picked w x L N := by
  rw [picked_eq]
  split_ifs with h1
  · obtain ⟨d, hd⟩ : ∃ d, N = L.toNat + d := ⟨N - L.toNat, by omega⟩
    rw [hd, masked_stays w x L _ d (by omega), masked_eq_run w x L _ (by omega)]
  · have e := masked_stays w x L 0 N (by push_cast; omega)
    rw [Nat.zero_add] at e
    rw [e]; rfl

/-! ## The gates as the kernel computes them -/

/-- The constant one half, as an extended real. -/
theorem ofBits_half : Ideal.ofBits .f32 0x3F000000#32 = ((1 / 2 : ℝ) : EReal) := by
  simp [Ideal.ofBits, Ideal.ieee, -EReal.coe_mul]; norm_num

/-- The sigmoid through a hyperbolic tangent of half the argument. -/
theorem half_tanh_half (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    norm_cast; norm_num
    rw [← EReal.coe_neg, ← EReal.coe_add]; norm_num
  | top =>
    rw [EReal.coe_mul_top_of_pos (by norm_num), Ideal.tanh_top, Ideal.logistic_top]
    norm_cast; norm_num
  | coe r =>
    rw [← EReal.coe_mul, Ideal.tanh_coe, Ideal.logistic_coe, ← EReal.coe_mul, ← EReal.coe_add]
    congr 1
    have hp : 0 < Real.exp (1 / 2 * r) := Real.exp_pos _
    have he : Real.exp (-r) = (Real.exp (1 / 2 * r))⁻¹ * (Real.exp (1 / 2 * r))⁻¹ := by
      rw [← Real.exp_neg, ← Real.exp_add]; congr 1; ring
    rw [Real.tanh_eq_sinh_div_cosh, Real.sinh_eq, Real.cosh_eq, he, Real.exp_neg]
    generalize Real.exp (1 / 2 * r) = y at hp
    field_simp
    ring

/-- A finite nonnegative factor comes out of a sum. -/
theorem mul_sum_of_nonneg {n : ℕ} (s : ℝ) (hs : 0 ≤ s) (f : Fin n → EReal) : ∑ i, (s : EReal) * f i = (s : EReal) * ∑ i, f i := by
  have h0 : (0 : EReal) ≤ (s : EReal) := by exact_mod_cast hs
  refine Finset.induction_on (Finset.univ : Finset (Fin n)) (by simp) ?_
  intro a t ha ih
  rw [Finset.sum_insert ha, Finset.sum_insert ha, ih, EReal.left_distrib_of_nonneg_of_ne_top h0 (EReal.coe_ne_top s)]

/-- A gate computed from weights and biases all scaled by `s` is `s` times the gate. -/
theorem gate_scaled (w : Weights) (x : Fin 64 → EReal) (h : Fin 128 → EReal) (k : Fin 512) (s : ℝ) (hs : 0 ≤ s) :
    ((∑ i, x i * (w.wi k i * (s : EReal))) + ∑ j, h j * (w.wh k j * (s : EReal))) + (w.bi k + w.bh k) * (s : EReal)
      = (s : EReal) * gate w x h k := by
  have h0 : (0 : EReal) ≤ (s : EReal) := by exact_mod_cast hs
  have e1 : ∀ i, x i * (w.wi k i * (s : EReal)) = (s : EReal) * (x i * w.wi k i) := fun i => by
    rw [← mul_assoc, mul_comm]
  have e2 : ∀ j, h j * (w.wh k j * (s : EReal)) = (s : EReal) * (h j * w.wh k j) := fun j => by
    rw [← mul_assoc, mul_comm]
  simp only [e1, e2, mul_sum_of_nonneg s hs]
  rw [mul_comm (w.bi k + w.bh k), ← EReal.left_distrib_of_nonneg_of_ne_top h0 (EReal.coe_ne_top s),
    ← EReal.left_distrib_of_nonneg_of_ne_top h0 (EReal.coe_ne_top s), gate, add_assoc _ (w.bi k)]

/-! ## The dense layer and its normalisation -/

/-- The rectified linear layer. -/
def relu (x : Fin 128 → EReal) (w : Fin 128 → Fin 128 → EReal) (b : Fin 128 → EReal) (j : Fin 128) : EReal :=
  max ((∑ i, x i * w j i) + b j) 0

/-- Two halves side by side. -/
def beside (a b : Fin 128 → EReal) (k : Fin 256) : EReal :=
  if h : k.1 < 128 then a ⟨k.1, h⟩ else b ⟨k.1 - 128, by omega⟩

/-- The dense layer. -/
def linear (x : Fin 256 → EReal) (w : Fin 256 → Fin 256 → EReal) (b : Fin 256 → EReal) (k : Fin 256) : EReal :=
  (∑ i, x i * w k i) + b k

/-- The divisor of the means, 256. -/
abbrev width : EReal := Ideal.ofBits .f32 0x43800000#32

/-- The constant added to the variance. -/
abbrev eps : EReal := Ideal.ofBits .f32 0x3727C5AC#32

/-- The mean of a row. -/
def mean (u : Fin 256 → EReal) : EReal := Ideal.div (∑ k, u k) width

/-- A row less its mean. -/
def away (u : Fin 256 → EReal) (k : Fin 256) : EReal := u k - mean u

/-- The variance of a row, with the constant added. -/
def spread (u : Fin 256 → EReal) : EReal := mean (fun k => away u k * away u k) + eps

/-- A row normalised, scaled and shifted. -/
def layerNorm (u g b : Fin 256 → EReal) (k : Fin 256) : EReal :=
  Ideal.div (away u k) (Ideal.sqrt (spread u)) * g k + b k

theorem width_eq : width = ((256 : ℝ) : EReal) := by
  simp [width, Ideal.ofBits, Ideal.ieee, -EReal.coe_mul]; norm_num

theorem eps_pos : (0 : EReal) < eps := by
  have h : eps = (((10995116 : ℝ) * 2 ^ (-40 : ℤ) : ℝ) : EReal) := by
    simp [eps, Ideal.ofBits, Ideal.ieee, -EReal.coe_mul]
  rw [h]
  exact_mod_cast (by positivity : (0 : ℝ) < (10995116 : ℝ) * 2 ^ (-40 : ℤ))

theorem mul_self_nonneg' (a : EReal) : 0 ≤ a * a := by
  induction a with
  | bot => simp
  | top => simp
  | coe r => rw [← EReal.coe_mul]; exact_mod_cast mul_self_nonneg r

theorem spread_pos (u : Fin 256 → EReal) : 0 < spread u := by
  have h1 : 0 ≤ mean (fun k => away u k * away u k) := by
    rw [mean, width_eq, Ideal.div_coe (by norm_num)]
    exact mul_nonneg (Finset.sum_nonneg fun k _ => mul_self_nonneg' _) (by exact_mod_cast (by norm_num : (0 : ℝ) ≤ 1 / 256))
  exact lt_of_lt_of_le eps_pos (le_add_of_nonneg_left h1)

/-- The product with a reciprocal square root is the quotient by the square root, of a positive number. -/
theorem mul_rsqrt (d v : EReal) (h : 0 < v) : d * Ideal.rsqrt v = Ideal.div d (Ideal.sqrt v) := by
  induction v with
  | bot => exact absurd h (by simp)
  | top => rw [Ideal.rsqrt_top, Ideal.sqrt_top, Ideal.div, if_neg (by simp), EReal.inv_top]
  | coe r =>
    have hr : 0 < r := by exact_mod_cast h
    rw [Ideal.rsqrt_coe, Ideal.sqrt_coe, if_neg (not_lt.2 hr.le), if_neg hr.ne', if_neg (not_lt.2 hr.le),
      Ideal.div_coe (Real.sqrt_pos.2 hr).ne', one_div]

/-- The normalisation as the kernel computes it. -/
theorem layerNorm_rsqrt (u g b : Fin 256 → EReal) (k : Fin 256) :
    away u k * Ideal.rsqrt (spread u) * g k + b k = layerNorm u g b k := by
  rw [mul_rsqrt _ _ (spread_pos u), layerNorm]

end Cert.Rows
end
-- ==== Proof.Result.lean ====
module

public import proofs.«01_k».proof.Proof.Rows
public import Idealize.ShloMosaic.Lib.Pointwise

@[expose] public section

noncomputable section

/-! The result as a function of the thirteen arguments, one word (row) after another. -/

namespace Cert.Rows

open Idealize.ShloMosaic

/-- The thirteen arguments' values. -/
structure Args where
  xr : FVec Ideal ⟨3, ![8, 512, 128]⟩ .f32
  xw : FVec Ideal ⟨4, ![8, 512, 20, 64]⟩ .f32
  xn : IVec ⟨3, ![8, 512, 4]⟩ 32
  wr : FVec Ideal ⟨2, ![128, 128]⟩ .f32
  br : FVec Ideal ⟨1, ![128]⟩ .f32
  wih : FVec Ideal ⟨2, ![512, 64]⟩ .f32
  whh : FVec Ideal ⟨2, ![512, 128]⟩ .f32
  bih : FVec Ideal ⟨1, ![512]⟩ .f32
  bhh : FVec Ideal ⟨1, ![512]⟩ .f32
  wc : FVec Ideal ⟨2, ![256, 256]⟩ .f32
  bc : FVec Ideal ⟨1, ![256]⟩ .f32
  gamma : FVec Ideal ⟨1, ![256]⟩ .f32
  beta : FVec Ideal ⟨1, ![256]⟩ .f32

namespace Args
variable (A : Args)

/-- The batch of row `a`. -/
def hi (a : Fin 4096) : Fin 8 := ⟨a.1 / 512, by omega⟩

/-- The place of row `a` in its batch. -/
def lo (a : Fin 4096) : Fin 512 := ⟨a.1 % 512, by omega⟩

/-- The LSTM's weights. -/
def lstm : Weights := ⟨fun k i => A.wih (ix2 k i), fun k j => A.whh (ix2 k j), fun k => A.bih (ix1 k), fun k => A.bhh (ix1 k)⟩

/-- The characters of row `a`, by step. -/
def chars (a : Fin 4096) (n : ℕ) (i : Fin 64) : EReal := A.xw (ix4 (hi a) (lo a) ⟨n % 20, Nat.mod_lt _ (by decide)⟩ i)

/-- The length of row `a`. -/
def len (a : Fin 4096) : BitVec 32 := A.xn (ix3 (hi a) (lo a) 3)

/-- Row `a` of the rectified linear layer. -/
def word (a : Fin 4096) : Fin 128 → EReal :=
  relu (fun i => A.xr (ix3 (hi a) (lo a) i)) (fun j i => A.wr (ix2 j i)) (fun j => A.br (ix1 j))

/-- Row `a` of the result, from the LSTM's final hidden state `h`. -/
def out (a : Fin 4096) (h : Fin 128 → EReal) : Fin 256 → EReal :=
  layerNorm (linear (beside (A.word a) h) (fun k i => A.wc (ix2 k i)) (fun k => A.bc (ix1 k)))
    (fun k => A.gamma (ix1 k)) (fun k => A.beta (ix1 k))

/-- The result with the masked recursion. -/
def viaMask (j : (⟨2, ![4096, 256]⟩ : Shape).Idx) : EReal := A.out (j 0) (masked A.lstm (A.chars (j 0)) (A.len (j 0)).toInt 20).1 (j 1)

/-- The result with the picked states. -/
def viaPick (j : (⟨2, ![4096, 256]⟩ : Shape).Idx) : EReal := A.out (j 0) (picked A.lstm (A.chars (j 0)) (A.len (j 0)).toInt 20) (j 1)

/-- Of rows no longer than twenty characters the two are the same. -/
theorem viaPick_eq (h : ∀ a, (A.len a).toInt ≤ 20) : A.viaPick = A.viaMask := by
  funext j
  rw [viaPick, viaMask, masked_eq_picked A.lstm (A.chars (j 0)) _ 20 (h (j 0))]

end Args
end Cert.Rows
end
-- ==== Proof.BlockTerm.lean ====
module

public import proofs.«01_k».proof.Proof.Gen.KernelIdeal.Value

@[expose] public section

set_option maxRecDepth 16384

noncomputable section

/-! What one block of the kernel stores, as a recursion over the twenty steps.  The printed body is
one long straight line; here each of its values is named by the step it belongs to. -/

namespace Cert.KernelIdeal.Hand

open Idealize.ShloMosaic Idealize.ShloMosaic.TcCoe Idealize.ShloMosaic.Tactic Cert.KernelIdeal.Gen

variable {F : FTy → Type} [FloatOps F]

/-- The constant one half. -/
abbrev half : F .f32 := FloatOps.ofBits .f32 0x3F000000#32

theorem slices_gate (k : Fin 4) : S1024x512.Slices ![0, 128 * k.1] S1024x128 :=
  ⟨rfl, fun a => by fin_cases a <;> fin_cases k <;> decide⟩

theorem slices_step (n : ℕ) : S20480x64.Slices ![1024 * (n % 20), 0] S1024x64 := by
  have h : n % 20 < 20 := Nat.mod_lt _ (by decide)
  refine ⟨rfl, fun a => ?_⟩
  fin_cases a
  · show 1024 * (n % 20) + 1024 ≤ 20480; omega
  · show 0 + 64 ≤ 64; omega

/-- The `k`-th of the four gate blocks of 128 lanes. -/
def slc (k : Fin 4) (t : FVec F S1024x512 .f32) : FVec F S1024x128 .f32 :=
  extractStridedSlice S1024x128 ![0, 128 * k.1] t (slices_gate k)

/-- A gate block after `x ↦ x / 2 + 1 / 2`. -/
def sg (k : Fin 4) (t : FVec F S1024x512 .f32) : FVec F S1024x128 .f32 :=
  addf (mulf (broadcast S1024x128 half) (slc k t)) (broadcast S1024x128 half)

/-- The hyperbolic tangent of step `n`'s gate pre-activations, from the hidden state `h`. -/
def act (v16 : FVec F S20480x64 .f32) (v18 : FVec F S64x512 .f32) (v20 : FVec F S1x512 .f32) (v25 : FVec F S128x512 .f32)
    (n : ℕ) (h : FVec F S1024x128 .f32) : FVec F S1024x512 .f32 :=
  tanh (addf (addf
    (matmul dot_S1024x64_S64x512_S1024x512_1_0_0_1_n_n none
      (extractStridedSlice S1024x64 ![1024 * (n % 20), 0] v16 (slices_step n)) v18 (constant S1024x512 .f32 0x00000000#32))
    (matmul dot_S1024x128_S128x512_S1024x512_1_0_0_1_n_n none h v25 (constant S1024x512 .f32 0x00000000#32)))
    (broadcastTo S1024x512 v20 broadcasts_S1x512_S1024x512))

/-- The cell state a step leaves, from its gates `t` and the cell state before it. -/
def cnew (t : FVec F S1024x512 .f32) (c : FVec F S1024x128 .f32) : FVec F S1024x128 .f32 :=
  addf (mulf (sg 1 t) c) (mulf (sg 0 t) (slc 2 t))

/-- The hidden state a step leaves. -/
def hnew (t : FVec F S1024x512 .f32) (c : FVec F S1024x128 .f32) : FVec F S1024x128 .f32 :=
  mulf (sg 3 t) (tanh (cnew t c))

/-- Hidden and cell state after `n` steps, no row masked. -/
def stAt (v16 : FVec F S20480x64 .f32) (v18 : FVec F S64x512 .f32) (v20 : FVec F S1x512 .f32) (v25 : FVec F S128x512 .f32) :
    ℕ → FVec F S1024x128 .f32 × FVec F S1024x128 .f32
  | 0 => (broadcast S1024x128 (FloatOps.ofBits .f32 0x00000000#32), broadcast S1024x128 (FloatOps.ofBits .f32 0x00000000#32))
  | n + 1 =>
    let s := stAt v16 v18 v20 v25 n
    let t := act v16 v18 v20 v25 n s.1
    (hnew t s.2, cnew t s.2)

def hidAt (v16 : FVec F S20480x64 .f32) (v18 : FVec F S64x512 .f32) (v20 : FVec F S1x512 .f32) (v25 : FVec F S128x512 .f32)
    (n : ℕ) : FVec F S1024x128 .f32 := (stAt v16 v18 v20 v25 n).1

def cellAt (v16 : FVec F S20480x64 .f32) (v18 : FVec F S64x512 .f32) (v20 : FVec F S1x512 .f32) (v25 : FVec F S128x512 .f32)
    (n : ℕ) : FVec F S1024x128 .f32 := (stAt v16 v18 v20 v25 n).2

def actAt (v16 : FVec F S20480x64 .f32) (v18 : FVec F S64x512 .f32) (v20 : FVec F S1x512 .f32) (v25 : FVec F S128x512 .f32)
    (n : ℕ) : FVec F S1024x512 .f32 := act v16 v18 v20 v25 n (hidAt v16 v18 v20 v25 n)

/-- The hidden states picked so far: row by row, the one after as many steps as the row's length. -/
def pickAt (v12 : IVec S1024x128 32) (v16 : FVec F S20480x64 .f32) (v18 : FVec F S64x512 .f32) (v20 : FVec F S1x512 .f32)
    (v25 : FVec F S128x512 .f32) : ℕ → FVec F S1024x128 .f32
  | 0 => broadcast S1024x128 (FloatOps.ofBits .f32 0x00000000#32)
  | n + 1 => select (cmpi .eq v12 (broadcast S1024x128 (BitVec.ofNat 32 (n + 1)))) (hidAt v16 v18 v20 v25 (n + 1))
      (pickAt v12 v16 v18 v20 v25 n)

/-- The dense layer on the two halves side by side. -/
def dense (v10 f : FVec F S1024x128 .f32) (w : Vec F S256x256 .f32) (b : Vec F S1x256 .f32) : FVec F S1024x256 .f32 :=
  addf (matmul dot_S1024x256_S256x256_S1024x256_1_0_0_1_n_n none
      (concatenate S1024x256 1 [⟨S1024x128, v10⟩, ⟨S1024x128, f⟩] concatenates_S1024x128_S1024x128_S1024x256_d1)
      (shapeCast S256x256 w shapeCasts_S256x256_S256x256) (constant S1024x256 .f32 0x00000000#32))
    (broadcastTo S1024x256 (shapeCast S1x256 b shapeCasts_S1x256_S1x256) broadcasts_S1x256_S1024x256)

/-- The mean over the 256 lanes, one per row. -/
def rowMean (u : FVec F S1024x256 .f32) : FVec F S1024x1 .f32 :=
  divf (shapeCast S1024x1 (multiReduction .add [1] S1024 u 0x00000000#32 reduces_S1024x256_S1024 (.inl rfl) rfl)
      shapeCasts_S1024_S1024x1) (broadcast S1024x1 (FloatOps.ofBits .f32 0x43800000#32))

/-- A row less its mean. -/
def centre (u : FVec F S1024x256 .f32) : FVec F S1024x256 .f32 :=
  subf u (broadcastTo S1024x256 (rowMean u) broadcasts_S1024x1_S1024x256)

/-- A row scaled to unit variance, the mean taken off. -/
def normed (u : FVec F S1024x256 .f32) : FVec F S1024x256 .f32 :=
  mulf (centre u) (broadcastTo S1024x256
    (rsqrt (addf (rowMean (mulf (centre u) (centre u))) (broadcast S1024x1 (FloatOps.ofBits .f32 0x3727C5AC#32))))
    broadcasts_S1024x1_S1024x256)

def centred (v10 f : FVec F S1024x128 .f32) (w : Vec F S256x256 .f32) (b : Vec F S1x256 .f32) : FVec F S1024x256 .f32 :=
  normed (dense v10 f w b)

/-! The printed values, one by one. -/

section Pay
variable (v10 : FVec F S1024x128 .f32) (v12 : IVec S1024x128 32) (v16 : FVec F S20480x64 .f32) (v18 : FVec F S64x512 .f32)
  (v20 : FVec F S1x512 .f32) (v25 : FVec F S128x512 .f32)
  (x2 : Vec F S1024x20x64 .f32) (x5 : Vec F S64x512 .f32) (x7 : Vec F S1x512 .f32) (x6 : Vec F S128x512 .f32)

theorem pay10_val : k0_pay10 x2 x5 x7 x6 = actAt (k0_pay4 x2) (k0_pay5 x5) (k0_pay6 x7) (k0_pay9 x6) 0 := rfl
theorem pay11_val : k0_pay11 x2 x5 x7 x6 = slc 0 (actAt (k0_pay4 x2) (k0_pay5 x5) (k0_pay6 x7) (k0_pay9 x6) 0) := rfl
theorem pay12_val : k0_pay12 (k0_pay7 (F := F)) (actAt v16 v18 v20 v25 0) (slc 0 (actAt v16 v18 v20 v25 0)) (FloatOps.ofBits .f32 0x3F000000#32) = (cellAt v16 v18 v20 v25 1) := rfl
theorem pay14_val : k0_pay14 v12 (k0_pay7 (F := F)) (k0_pay8 (F := F)) (actAt v16 v18 v20 v25 0) (slc 0 (actAt v16 v18 v20 v25 0)) (FloatOps.ofBits .f32 0x3F000000#32) = (pickAt v12 v16 v18 v20 v25 1) := rfl
theorem pay16_val : k0_pay16 v16 v18 v20 (k0_pay7 (F := F)) v25 (actAt v16 v18 v20 v25 0) (slc 0 (actAt v16 v18 v20 v25 0)) (FloatOps.ofBits .f32 0x3F000000#32) = (sg 0 (actAt v16 v18 v20 v25 1)) := rfl
theorem pay17_val : k0_pay17 v16 v18 v20 (k0_pay7 (F := F)) v25 (actAt v16 v18 v20 v25 0) (slc 0 (actAt v16 v18 v20 v25 0)) (FloatOps.ofBits .f32 0x3F000000#32) = (sg 1 (actAt v16 v18 v20 v25 1)) := rfl
theorem pay18_val : k0_pay18 v16 v18 v20 (k0_pay7 (F := F)) v25 (actAt v16 v18 v20 v25 0) (slc 0 (actAt v16 v18 v20 v25 0)) (FloatOps.ofBits .f32 0x3F000000#32) = (slc 2 (actAt v16 v18 v20 v25 1)) := rfl
theorem pay19_val : k0_pay19 v16 v18 v20 (k0_pay7 (F := F)) v25 (actAt v16 v18 v20 v25 0) (slc 0 (actAt v16 v18 v20 v25 0)) (FloatOps.ofBits .f32 0x3F000000#32) = (sg 3 (actAt v16 v18 v20 v25 1)) := rfl
theorem pay23_val : k0_pay23 v16 v18 v20 v25 (cellAt v16 v18 v20 v25 1) (sg 0 (actAt v16 v18 v20 v25 1)) (sg 1 (actAt v16 v18 v20 v25 1)) (slc 2 (actAt v16 v18 v20 v25 1)) (sg 3 (actAt v16 v18 v20 v25 1)) = (cellAt v16 v18 v20 v25 3) := rfl
theorem pay25_val : k0_pay25 v12 v16 v18 v20 v25 (cellAt v16 v18 v20 v25 1) (pickAt v12 v16 v18 v20 v25 1) (sg 0 (actAt v16 v18 v20 v25 1)) (sg 1 (actAt v16 v18 v20 v25 1)) (slc 2 (actAt v16 v18 v20 v25 1)) (sg 3 (actAt v16 v18 v20 v25 1)) = (pickAt v12 v16 v18 v20 v25 3) := rfl
theorem pay26_val : k0_pay26 v16 v18 v20 v25 (cellAt v16 v18 v20 v25 1) (sg 0 (actAt v16 v18 v20 v25 1)) (sg 1 (actAt v16 v18 v20 v25 1)) (slc 2 (actAt v16 v18 v20 v25 1)) (sg 3 (actAt v16 v18 v20 v25 1)) = (actAt v16 v18 v20 v25 3) := rfl
theorem pay27_val : k0_pay27 v16 v18 v20 v25 (cellAt v16 v18 v20 v25 1) (sg 0 (actAt v16 v18 v20 v25 1)) (sg 1 (actAt v16 v18 v20 v25 1)) (slc 2 (actAt v16 v18 v20 v25 1)) (sg 3 (actAt v16 v18 v20 v25 1)) = (slc 0 (actAt v16 v18 v20 v25 3)) := rfl
theorem pay28_val : k0_pay28 (cellAt v16 v18 v20 v25 3) (actAt v16 v18 v20 v25 3) (slc 0 (actAt v16 v18 v20 v25 3)) (FloatOps.ofBits .f32 0x3F000000#32) = (cellAt v16 v18 v20 v25 4) := rfl
theorem pay30_val : k0_pay30 v12 (cellAt v16 v18 v20 v25 3) (pickAt v12 v16 v18 v20 v25 3) (actAt v16 v18 v20 v25 3) (slc 0 (actAt v16 v18 v20 v25 3)) (FloatOps.ofBits .f32 0x3F000000#32) = (pickAt v12 v16 v18 v20 v25 4) := rfl
theorem pay32_val : k0_pay32 v16 v18 v20 v25 (cellAt v16 v18 v20 v25 3) (actAt v16 v18 v20 v25 3) (slc 0 (actAt v16 v18 v20 v25 3)) (FloatOps.ofBits .f32 0x3F000000#32) = (sg 0 (actAt v16 v18 v20 v25 4)) := rfl
theorem pay33_val : k0_pay33 v16 v18 v20 v25 (cellAt v16 v18 v20 v25 3) (actAt v16 v18 v20 v25 3) (slc 0 (actAt v16 v18 v20 v25 3)) (FloatOps.ofBits .f32 0x3F000000#32) = (sg 1 (actAt v16 v18 v20 v25 4)) := rfl
theorem pay34_val : k0_pay34 v16 v18 v20 v25 (cellAt v16 v18 v20 v25 3) (actAt v16 v18 v20 v25 3) (slc 0 (actAt v16 v18 v20 v25 3)) (FloatOps.ofBits .f32 0x3F000000#32) = (slc 2 (actAt v16 v18 v20 v25 4)) := rfl
theorem pay35_val : k0_pay35 v16 v18 v20 v25 (cellAt v16 v18 v20 v25 3) (actAt v16 v18 v20 v25 3) (slc 0 (actAt v16 v18 v20 v25 3)) (FloatOps.ofBits .f32 0x3F000000#32) = (sg 3 (actAt v16 v18 v20 v25 4)) := rfl
theorem pay39_val : k0_pay39 v16 v18 v20 v25 (cellAt v16 v18 v20 v25 4) (sg 0 (actAt v16 v18 v20 v25 4)) (sg 1 (actAt v16 v18 v20 v25 4)) (slc 2 (actAt v16 v18 v20 v25 4)) (sg 3 (actAt v16 v18 v20 v25 4)) = (cellAt v16 v18 v20 v25 6) := rfl
theorem pay41_val : k0_pay41 v12 v16 v18 v20 v25 (cellAt v16 v18 v20 v25 4) (pickAt v12 v16 v18 v20 v25 4) (sg 0 (actAt v16 v18 v20 v25 4)) (sg 1 (actAt v16 v18 v20 v25 4)) (slc 2 (actAt v16 v18 v20 v25 4)) (sg 3 (actAt v16 v18 v20 v25 4)) = (pickAt v12 v16 v18 v20 v25 6) := rfl
theorem pay42_val : k0_pay42 v16 v18 v20 v25 (cellAt v16 v18 v20 v25 4) (sg 0 (actAt v16 v18 v20 v25 4)) (sg 1 (actAt v16 v18 v20 v25 4)) (slc 2 (actAt v16 v18 v20 v25 4)) (sg 3 (actAt v16 v18 v20 v25 4)) = (actAt v16 v18 v20 v25 6) := rfl
theorem pay43_val : k0_pay43 v16 v18 v20 v25 (cellAt v16 v18 v20 v25 4) (sg 0 (actAt v16 v18 v20 v25 4)) (sg 1 (actAt v16 v18 v20 v25 4)) (slc 2 (actAt v16 v18 v20 v25 4)) (sg 3 (actAt v16 v18 v20 v25 4)) = (slc 0 (actAt v16 v18 v20 v25 6)) := rfl
theorem pay44_val : k0_pay44 (cellAt v16 v18 v20 v25 6) (actAt v16 v18 v20 v25 6) (slc 0 (actAt v16 v18 v20 v25 6)) (FloatOps.ofBits .f32 0x3F000000#32) = (cellAt v16 v18 v20 v25 7) := rfl
theorem pay46_val : k0_pay46 v12 (cellAt v16 v18 v20 v25 6) (pickAt v12 v16 v18 v20 v25 6) (actAt v16 v18 v20 v25 6) (slc 0 (actAt v16 v18 v20 v25 6)) (FloatOps.ofBits .f32 0x3F000000#32) = (pickAt v12 v16 v18 v20 v25 7) := rfl
theorem pay48_val : k0_pay48 v16 v18 v20 v25 (cellAt v16 v18 v20 v25 6) (actAt v16 v18 v20 v25 6) (slc 0 (actAt v16 v18 v20 v25 6)) (FloatOps.ofBits .f32 0x3F000000#32) = (sg 0 (actAt v16 v18 v20 v25 7)) := rfl
theorem pay49_val : k0_pay49 v16 v18 v20 v25 (cellAt v16 v18 v20 v25 6) (actAt v16 v18 v20 v25 6) (slc 0 (actAt v16 v18 v20 v25 6)) (FloatOps.ofBits .f32 0x3F000000#32) = (sg 1 (actAt v16 v18 v20 v25 7)) := rfl
theorem pay50_val : k0_pay50 v16 v18 v20 v25 (cellAt v16 v18 v20 v25 6) (actAt v16 v18 v20 v25 6) (slc 0 (actAt v16 v18 v20 v25 6)) (FloatOps.ofBits .f32 0x3F000000#32) = (slc 2 (actAt v16 v18 v20 v25 7)) := rfl
theorem pay51_val : k0_pay51 v16 v18 v20 v25 (cellAt v16 v18 v20 v25 6) (actAt v16 v18 v20 v25 6) (slc 0 (actAt v16 v18 v20 v25 6)) (FloatOps.ofBits .f32 0x3F000000#32) = (sg 3 (actAt v16 v18 v20 v25 7)) := rfl
theorem pay55_val : k0_pay55 v16 v18 v20 v25 (cellAt v16 v18 v20 v25 7) (sg 0 (actAt v16 v18 v20 v25 7)) (sg 1 (actAt v16 v18 v20 v25 7)) (slc 2 (actAt v16 v18 v20 v25 7)) (sg 3 (actAt v16 v18 v20 v25 7)) = (cellAt v16 v18 v20 v25 9) := rfl
theorem pay57_val : k0_pay57 v12 v16 v18 v20 v25 (cellAt v16 v18 v20 v25 7) (pickAt v12 v16 v18 v20 v25 7) (sg 0 (actAt v16 v18 v20 v25 7)) (sg 1 (actAt v16 v18 v20 v25 7)) (slc 2 (actAt v16 v18 v20 v25 7)) (sg 3 (actAt v16 v18 v20 v25 7)) = (pickAt v12 v16 v18 v20 v25 9) := rfl
theorem pay58_val : k0_pay58 v16 v18 v20 v25 (cellAt v16 v18 v20 v25 7) (sg 0 (actAt v16 v18 v20 v25 7)) (sg 1 (actAt v16 v18 v20 v25 7)) (slc 2 (actAt v16 v18 v20 v25 7)) (sg 3 (actAt v16 v18 v20 v25 7)) = (actAt v16 v18 v20 v25 9) := rfl
theorem pay59_val : k0_pay59 v16 v18 v20 v25 (cellAt v16 v18 v20 v25 7) (sg 0 (actAt v16 v18 v20 v25 7)) (sg 1 (actAt v16 v18 v20 v25 7)) (slc 2 (actAt v16 v18 v20 v25 7)) (sg 3 (actAt v16 v18 v20 v25 7)) = (slc 0 (actAt v16 v18 v20 v25 9)) := rfl
theorem pay60_val : k0_pay60 (cellAt v16 v18 v20 v25 9) (actAt v16 v18 v20 v25 9) (slc 0 (actAt v16 v18 v20 v25 9)) (FloatOps.ofBits .f32 0x3F000000#32) = (cellAt v16 v18 v20 v25 10) := rfl
theorem pay62_val : k0_pay62 v12 (cellAt v16 v18 v20 v25 9) (pickAt v12 v16 v18 v20 v25 9) (actAt v16 v18 v20 v25 9) (slc 0 (actAt v16 v18 v20 v25 9)) (FloatOps.ofBits .f32 0x3F000000#32) = (pickAt v12 v16 v18 v20 v25 10) := rfl
theorem pay64_val : k0_pay64 v16 v18 v20 v25 (cellAt v16 v18 v20 v25 9) (actAt v16 v18 v20 v25 9) (slc 0 (actAt v16 v18 v20 v25 9)) (FloatOps.ofBits .f32 0x3F000000#32) = (sg 0 (actAt v16 v18 v20 v25 10)) := rfl
theorem pay65_val : k0_pay65 v16 v18 v20 v25 (cellAt v16 v18 v20 v25 9) (actAt v16 v18 v20 v25 9) (slc 0 (actAt v16 v18 v20 v25 9)) (FloatOps.ofBits .f32 0x3F000000#32) = (sg 1 (actAt v16 v18 v20 v25 10)) := rfl
theorem pay66_val : k0_pay66 v16 v18 v20 v25 (cellAt v16 v18 v20 v25 9) (actAt v16 v18 v20 v25 9) (slc 0 (actAt v16 v18 v20 v25 9)) (FloatOps.ofBits .f32 0x3F000000#32) = (slc 2 (actAt v16 v18 v20 v25 10)) := rfl
theorem pay67_val : k0_pay67 v16 v18 v20 v25 (cellAt v16 v18 v20 v25 9) (actAt v16 v18 v20 v25 9) (slc 0 (actAt v16 v18 v20 v25 9)) (FloatOps.ofBits .f32 0x3F000000#32) = (sg 3 (actAt v16 v18 v20 v25 10)) := rfl
theorem pay71_val : k0_pay71 v16 v18 v20 v25 (cellAt v16 v18 v20 v25 10) (sg 0 (actAt v16 v18 v20 v25 10)) (sg 1 (actAt v16 v18 v20 v25 10)) (slc 2 (actAt v16 v18 v20 v25 10)) (sg 3 (actAt v16 v18 v20 v25 10)) = (cellAt v16 v18 v20 v25 12) := rfl
theorem pay73_val : k0_pay73 v12 v16 v18 v20 v25 (cellAt v16 v18 v20 v25 10) (pickAt v12 v16 v18 v20 v25 10) (sg 0 (actAt v16 v18 v20 v25 10)) (sg 1 (actAt v16 v18 v20 v25 10)) (slc 2 (actAt v16 v18 v20 v25 10)) (sg 3 (actAt v16 v18 v20 v25 10)) = (pickAt v12 v16 v18 v20 v25 12) := rfl
theorem pay74_val : k0_pay74 v16 v18 v20 v25 (cellAt v16 v18 v20 v25 10) (sg 0 (actAt v16 v18 v20 v25 10)) (sg 1 (actAt v16 v18 v20 v25 10)) (slc 2 (actAt v16 v18 v20 v25 10)) (sg 3 (actAt v16 v18 v20 v25 10)) = (actAt v16 v18 v20 v25 12) := rfl
theorem pay75_val : k0_pay75 v16 v18 v20 v25 (cellAt v16 v18 v20 v25 10) (sg 0 (actAt v16 v18 v20 v25 10)) (sg 1 (actAt v16 v18 v20 v25 10)) (slc 2 (actAt v16 v18 v20 v25 10)) (sg 3 (actAt v16 v18 v20 v25 10)) = (slc 0 (actAt v16 v18 v20 v25 12)) := rfl
theorem pay76_val : k0_pay76 (cellAt v16 v18 v20 v25 12) (actAt v16 v18 v20 v25 12) (slc 0 (actAt v16 v18 v20 v25 12)) (FloatOps.ofBits .f32 0x3F000000#32) = (cellAt v16 v18 v20 v25 13) := rfl
theorem pay78_val : k0_pay78 v12 (cellAt v16 v18 v20 v25 12) (pickAt v12 v16 v18 v20 v25 12) (actAt v16 v18 v20 v25 12) (slc 0 (actAt v16 v18 v20 v25 12)) (FloatOps.ofBits .f32 0x3F000000#32) = (pickAt v12 v16 v18 v20 v25 13) := rfl
theorem pay80_val : k0_pay80 v16 v18 v20 v25 (cellAt v16 v18 v20 v25 12) (actAt v16 v18 v20 v25 12) (slc 0 (actAt v16 v18 v20 v25 12)) (FloatOps.ofBits .f32 0x3F000000#32) = (sg 0 (actAt v16 v18 v20 v25 13)) := rfl
theorem pay81_val : k0_pay81 v16 v18 v20 v25 (cellAt v16 v18 v20 v25 12) (actAt v16 v18 v20 v25 12) (slc 0 (actAt v16 v18 v20 v25 12)) (FloatOps.ofBits .f32 0x3F000000#32) = (sg 1 (actAt v16 v18 v20 v25 13)) := rfl
theorem pay82_val : k0_pay82 v16 v18 v20 v25 (cellAt v16 v18 v20 v25 12) (actAt v16 v18 v20 v25 12) (slc 0 (actAt v16 v18 v20 v25 12)) (FloatOps.ofBits .f32 0x3F000000#32) = (slc 2 (actAt v16 v18 v20 v25 13)) := rfl
theorem pay83_val : k0_pay83 v16 v18 v20 v25 (cellAt v16 v18 v20 v25 12) (actAt v16 v18 v20 v25 12) (slc 0 (actAt v16 v18 v20 v25 12)) (FloatOps.ofBits .f32 0x3F000000#32) = (sg 3 (actAt v16 v18 v20 v25 13)) := rfl
theorem pay87_val : k0_pay87 v16 v18 v20 v25 (cellAt v16 v18 v20 v25 13) (sg 0 (actAt v16 v18 v20 v25 13)) (sg 1 (actAt v16 v18 v20 v25 13)) (slc 2 (actAt v16 v18 v20 v25 13)) (sg 3 (actAt v16 v18 v20 v25 13)) = (cellAt v16 v18 v20 v25 15) := rfl
theorem pay89_val : k0_pay89 v12 v16 v18 v20 v25 (cellAt v16 v18 v20 v25 13) (pickAt v12 v16 v18 v20 v25 13) (sg 0 (actAt v16 v18 v20 v25 13)) (sg 1 (actAt v16 v18 v20 v25 13)) (slc 2 (actAt v16 v18 v20 v25 13)) (sg 3 (actAt v16 v18 v20 v25 13)) = (pickAt v12 v16 v18 v20 v25 15) := rfl
theorem pay90_val : k0_pay90 v16 v18 v20 v25 (cellAt v16 v18 v20 v25 13) (sg 0 (actAt v16 v18 v20 v25 13)) (sg 1 (actAt v16 v18 v20 v25 13)) (slc 2 (actAt v16 v18 v20 v25 13)) (sg 3 (actAt v16 v18 v20 v25 13)) = (actAt v16 v18 v20 v25 15) := rfl
theorem pay91_val : k0_pay91 v16 v18 v20 v25 (cellAt v16 v18 v20 v25 13) (sg 0 (actAt v16 v18 v20 v25 13)) (sg 1 (actAt v16 v18 v20 v25 13)) (slc 2 (actAt v16 v18 v20 v25 13)) (sg 3 (actAt v16 v18 v20 v25 13)) = (slc 0 (actAt v16 v18 v20 v25 15)) := rfl
theorem pay92_val : k0_pay92 (cellAt v16 v18 v20 v25 15) (actAt v16 v18 v20 v25 15) (slc 0 (actAt v16 v18 v20 v25 15)) (FloatOps.ofBits .f32 0x3F000000#32) = (cellAt v16 v18 v20 v25 16) := rfl
theorem pay94_val : k0_pay94 v12 (cellAt v16 v18 v20 v25 15) (pickAt v12 v16 v18 v20 v25 15) (actAt v16 v18 v20 v25 15) (slc 0 (actAt v16 v18 v20 v25 15)) (FloatOps.ofBits .f32 0x3F000000#32) = (pickAt v12 v16 v18 v20 v25 16) := rfl
theorem pay96_val : k0_pay96 v16 v18 v20 v25 (cellAt v16 v18 v20 v25 15) (actAt v16 v18 v20 v25 15) (slc 0 (actAt v16 v18 v20 v25 15)) (FloatOps.ofBits .f32 0x3F000000#32) = (sg 0 (actAt v16 v18 v20 v25 16)) := rfl
theorem pay97_val : k0_pay97 v16 v18 v20 v25 (cellAt v16 v18 v20 v25 15) (actAt v16 v18 v20 v25 15) (slc 0 (actAt v16 v18 v20 v25 15)) (FloatOps.ofBits .f32 0x3F000000#32) = (sg 1 (actAt v16 v18 v20 v25 16)) := rfl
theorem pay98_val : k0_pay98 v16 v18 v20 v25 (cellAt v16 v18 v20 v25 15) (actAt v16 v18 v20 v25 15) (slc 0 (actAt v16 v18 v20 v25 15)) (FloatOps.ofBits .f32 0x3F000000#32) = (slc 2 (actAt v16 v18 v20 v25 16)) := rfl
theorem pay99_val : k0_pay99 v16 v18 v20 v25 (cellAt v16 v18 v20 v25 15) (actAt v16 v18 v20 v25 15) (slc 0 (actAt v16 v18 v20 v25 15)) (FloatOps.ofBits .f32 0x3F000000#32) = (sg 3 (actAt v16 v18 v20 v25 16)) := rfl
theorem pay103_val : k0_pay103 v16 v18 v20 v25 (cellAt v16 v18 v20 v25 16) (sg 0 (actAt v16 v18 v20 v25 16)) (sg 1 (actAt v16 v18 v20 v25 16)) (slc 2 (actAt v16 v18 v20 v25 16)) (sg 3 (actAt v16 v18 v20 v25 16)) = (cellAt v16 v18 v20 v25 18) := rfl
theorem pay105_val : k0_pay105 v12 v16 v18 v20 v25 (cellAt v16 v18 v20 v25 16) (pickAt v12 v16 v18 v20 v25 16) (sg 0 (actAt v16 v18 v20 v25 16)) (sg 1 (actAt v16 v18 v20 v25 16)) (slc 2 (actAt v16 v18 v20 v25 16)) (sg 3 (actAt v16 v18 v20 v25 16)) = (pickAt v12 v16 v18 v20 v25 18) := rfl
theorem pay106_val : k0_pay106 v16 v18 v20 v25 (cellAt v16 v18 v20 v25 16) (sg 0 (actAt v16 v18 v20 v25 16)) (sg 1 (actAt v16 v18 v20 v25 16)) (slc 2 (actAt v16 v18 v20 v25 16)) (sg 3 (actAt v16 v18 v20 v25 16)) = (actAt v16 v18 v20 v25 18) := rfl
theorem pay107_val : k0_pay107 v16 v18 v20 v25 (cellAt v16 v18 v20 v25 16) (sg 0 (actAt v16 v18 v20 v25 16)) (sg 1 (actAt v16 v18 v20 v25 16)) (slc 2 (actAt v16 v18 v20 v25 16)) (sg 3 (actAt v16 v18 v20 v25 16)) = (slc 0 (actAt v16 v18 v20 v25 18)) := rfl
theorem pay108_val : k0_pay108 (cellAt v16 v18 v20 v25 18) (actAt v16 v18 v20 v25 18) (slc 0 (actAt v16 v18 v20 v25 18)) (FloatOps.ofBits .f32 0x3F000000#32) = (cellAt v16 v18 v20 v25 19) := rfl
theorem pay110_val : k0_pay110 v12 (cellAt v16 v18 v20 v25 18) (pickAt v12 v16 v18 v20 v25 18) (actAt v16 v18 v20 v25 18) (slc 0 (actAt v16 v18 v20 v25 18)) (FloatOps.ofBits .f32 0x3F000000#32) = (pickAt v12 v16 v18 v20 v25 19) := rfl
theorem pay112_val : k0_pay112 v16 v18 v20 v25 (cellAt v16 v18 v20 v25 18) (actAt v16 v18 v20 v25 18) (slc 0 (actAt v16 v18 v20 v25 18)) (FloatOps.ofBits .f32 0x3F000000#32) = (sg 0 (actAt v16 v18 v20 v25 19)) := rfl
theorem pay113_val : k0_pay113 v16 v18 v20 v25 (cellAt v16 v18 v20 v25 18) (actAt v16 v18 v20 v25 18) (slc 0 (actAt v16 v18 v20 v25 18)) (FloatOps.ofBits .f32 0x3F000000#32) = (sg 1 (actAt v16 v18 v20 v25 19)) := rfl
theorem pay114_val : k0_pay114 v16 v18 v20 v25 (cellAt v16 v18 v20 v25 18) (actAt v16 v18 v20 v25 18) (slc 0 (actAt v16 v18 v20 v25 18)) (FloatOps.ofBits .f32 0x3F000000#32) = (slc 2 (actAt v16 v18 v20 v25 19)) := rfl
theorem pay115_val : k0_pay115 v16 v18 v20 v25 (cellAt v16 v18 v20 v25 18) (actAt v16 v18 v20 v25 18) (slc 0 (actAt v16 v18 v20 v25 18)) (FloatOps.ofBits .f32 0x3F000000#32) = (sg 3 (actAt v16 v18 v20 v25 19)) := rfl
theorem pay116_val (v10 : FVec F S1024x128 .f32) (v647 : Vec F S256x256 .f32) (v650 : Vec F S1x256 .f32) : k0_pay116 v10 v12 (cellAt v16 v18 v20 v25 19) (pickAt v12 v16 v18 v20 v25 19) (sg 0 (actAt v16 v18 v20 v25 19)) (sg 1 (actAt v16 v18 v20 v25 19)) (slc 2 (actAt v16 v18 v20 v25 19)) (sg 3 (actAt v16 v18 v20 v25 19)) v647 v650 = centred v10 (pickAt v12 v16 v18 v20 v25 20) v647 v650 := rfl
end Pay

end Cert.KernelIdeal.Hand
end
-- ==== Proof.KernelRow.lean ====
module

public import proofs.«01_k».proof.Proof.BlockTerm
public import proofs.«01_k».proof.Proof.Rows
public import Idealize.ShloMosaic.Lib.Pointwise

@[expose] public section

noncomputable section

/-! One row of a block, read element by element at the extended reals. -/

namespace Cert.KernelIdeal.Hand

open Idealize.ShloMosaic Idealize.ShloMosaic.TcCoe Cert.KernelIdeal.Gen

variable (v16 : FVec Ideal S20480x64 .f32) (v18 : FVec Ideal S64x512 .f32) (v20 : FVec Ideal S1x512 .f32)
  (v25 : FVec Ideal S128x512 .f32)

theorem act_apply (n : ℕ) (h : FVec Ideal S1024x128 .f32) (r : Fin 1024) (k : Fin 512) :
    act v16 v18 v20 v25 n h (ix2 r k) =
      Ideal.tanh ((∑ i : Fin 64, v16 (ix2 ⟨1024 * (n % 20) + r.1, by omega⟩ i) * v18 (ix2 i k))
        + (∑ j : Fin 128, h (ix2 r j) * v25 (ix2 j k)) + v20 (ix2 0 k)) := by
  pointwise [act]

theorem slc_apply (g : Fin 4) (t : FVec Ideal S1024x512 .f32) (r : Fin 1024) (j : Fin 128) :
    slc g t (ix2 r j) = t (ix2 r (Cert.Rows.lane g j)) := by
  pointwise [slc, Cert.Rows.lane]

theorem sg_apply (g : Fin 4) (t : FVec Ideal S1024x512 .f32) (r : Fin 1024) (j : Fin 128) :
    sg g t (ix2 r j) = ((1 / 2 : ℝ) : EReal) * t (ix2 r (Cert.Rows.lane g j)) + ((1 / 2 : ℝ) : EReal) := by
  pointwise [sg, slc_apply, Cert.Rows.ofBits_half]

theorem dense_apply (a f : FVec Ideal S1024x128 .f32) (w : FVec Ideal S256x256 .f32) (b : FVec Ideal S1x256 .f32) (r : Fin 1024) (k : Fin 256) :
    dense a f w b (ix2 r k) = Cert.Rows.linear (Cert.Rows.beside (fun j => a (ix2 r j)) (fun j => f (ix2 r j)))
      (fun k i => w (ix2 i k)) (fun k => b (ix2 0 k)) k := by
  pointwise [dense, Cert.Rows.linear, Cert.Rows.beside]

theorem centre_apply (u : FVec Ideal S1024x256 .f32) (r : Fin 1024) (k : Fin 256) :
    centre u (ix2 r k) = Cert.Rows.away (fun k => u (ix2 r k)) k := by
  pointwise [centre, rowMean, Cert.Rows.away, Cert.Rows.mean]

theorem normed_apply (u : FVec Ideal S1024x256 .f32) (r : Fin 1024) (k : Fin 256) :
    normed u (ix2 r k) = Cert.Rows.away (fun k => u (ix2 r k)) k * Ideal.rsqrt (Cert.Rows.spread (fun k => u (ix2 r k))) := by
  pointwise [normed, centre_apply, rowMean, Cert.Rows.spread, Cert.Rows.mean]

theorem pay1_apply (u : FVec Ideal S1024x256 .f32) (g b : FVec Ideal S1x256 .f32) (r : Fin 1024) (k : Fin 256) :
    k0_pay1 u g b (ix2 r k) = u (ix2 r k) * g (ix2 0 k) + b (ix2 0 k) := by
  pointwise [k0_pay1]

theorem pay2_apply (x : FVec Ideal S1024x128 .f32) (w : FVec Ideal S128x128 .f32) (b : FVec Ideal S1x128 .f32) (r : Fin 1024) (j : Fin 128) :
    k0_pay2 (F := Ideal) x w b (ix2 r j) = Cert.Rows.relu (fun i => x (ix2 r i)) (fun j i => w (ix2 i j)) (fun j => b (ix2 0 j)) j := by
  pointwise [k0_pay2, Cert.Rows.relu]

theorem pay3_apply (x : IVec S1024x128 32) (r : Fin 1024) (j : Fin 128) : k0_pay3 (F := Ideal) x (ix2 r j) = x (ix2 r j) := by
  pointwise [k0_pay3]

theorem pay4_apply (x : FVec Ideal S1024x20x64 .f32) (n : ℕ) (hn : n < 20) (r : Fin 1024) (i : Fin 64) :
    k0_pay4 (F := Ideal) x (ix2 ⟨1024 * n + r.1, by omega⟩ i) = x (ix3 r ⟨n, hn⟩ i) := by
  pointwise [k0_pay4]
  exact congrArg (fun a => x (ix3 r a i)) (Fin.ext (by show (1024 * n + r.1) / 1024 = n; omega))

theorem pay5_val (x : FVec Ideal S64x512 .f32) : k0_pay5 x = x := by unfold k0_pay5; exact shapeCast_self _ _
theorem pay6_val (x : FVec Ideal S1x512 .f32) : k0_pay6 x = x := by unfold k0_pay6; exact shapeCast_self _ _
theorem pay9_val (x : FVec Ideal S128x512 .f32) : k0_pay9 x = x := by unfold k0_pay9; exact shapeCast_self _ _

/-! ## The recursion of one row -/

/-- What the kernel's host scales a gate's weights by: one half for the sigmoids, one for the hyperbolic tangent. -/
def scale (k : Fin 512) : ℝ := if 256 ≤ k.1 ∧ k.1 < 384 then 1 else 1 / 2

theorem scale_nonneg (k : Fin 512) : 0 ≤ scale k := by unfold scale; split_ifs <;> norm_num

theorem scale_two (j : Fin 128) : scale (Cert.Rows.lane 2 j) = 1 := by
  unfold scale; exact if_pos ⟨by show 256 ≤ 128 * 2 + j.1; omega, by show 128 * 2 + j.1 < 384; omega⟩

theorem scale_half (g : Fin 4) (hg : g ≠ 2) (j : Fin 128) : scale (Cert.Rows.lane g j) = 1 / 2 := by
  unfold scale; refine if_neg fun h => ?_
  have h1 : 256 ≤ 128 * g.1 + j.1 := h.1
  have h2 : 128 * g.1 + j.1 < 384 := h.2
  exact hg (Fin.ext (by show g.1 = 2; omega))

variable (w : Cert.Rows.Weights) (xs : ℕ → Fin 64 → EReal) (r : Fin 1024)

/-- The four operands of the recursion hold row `r`'s characters and the scaled weights and biases. -/
structure Holds : Prop where
  x : ∀ (n : ℕ) (_ : n < 20) (i : Fin 64), v16 (ix2 ⟨1024 * (n % 20) + r.1, by omega⟩ i) = xs n i
  wi : ∀ i k, v18 (ix2 i k) = w.wi k i * ((scale k : ℝ) : EReal)
  wh : ∀ j k, v25 (ix2 j k) = w.wh k j * ((scale k : ℝ) : EReal)
  b : ∀ k, v20 (ix2 0 k) = (w.bi k + w.bh k) * ((scale k : ℝ) : EReal)

variable {v16 v18 v20 v25 w xs r}

theorem act_row (H : Holds v16 v18 v20 v25 w xs r) (n : ℕ) (hn : n < 20) (h : FVec Ideal S1024x128 .f32) (hr : Fin 128 → EReal)
    (hh : ∀ j, h (ix2 r j) = hr j) (k : Fin 512) :
    act v16 v18 v20 v25 n h (ix2 r k) = Ideal.tanh (((scale k : ℝ) : EReal) * Cert.Rows.gate w (xs n) hr k) := by
  rw [act_apply, ← Cert.Rows.gate_scaled w (xs n) hr k _ (scale_nonneg k)]
  simp only [H.x n hn, H.wi, H.wh, H.b, hh]

theorem sg_row (H : Holds v16 v18 v20 v25 w xs r) (n : ℕ) (hn : n < 20) (h : FVec Ideal S1024x128 .f32) (hr : Fin 128 → EReal)
    (hh : ∀ j, h (ix2 r j) = hr j) (g : Fin 4) (hg : g ≠ 2) (j : Fin 128) :
    sg g (act v16 v18 v20 v25 n h) (ix2 r j) = Ideal.logistic (Cert.Rows.gate w (xs n) hr (Cert.Rows.lane g j)) := by
  rw [sg_apply, act_row H n hn h hr hh, scale_half g hg, Cert.Rows.half_tanh_half]

theorem slc_row (H : Holds v16 v18 v20 v25 w xs r) (n : ℕ) (hn : n < 20) (h : FVec Ideal S1024x128 .f32) (hr : Fin 128 → EReal)
    (hh : ∀ j, h (ix2 r j) = hr j) (j : Fin 128) :
    slc 2 (act v16 v18 v20 v25 n h) (ix2 r j) = Ideal.tanh (Cert.Rows.gate w (xs n) hr (Cert.Rows.lane 2 j)) := by
  rw [slc_apply, act_row H n hn h hr hh, scale_two, EReal.coe_one, one_mul]

theorem cnew_row (H : Holds v16 v18 v20 v25 w xs r) (n : ℕ) (hn : n < 20) (h c : FVec Ideal S1024x128 .f32) (hr cr : Fin 128 → EReal)
    (hh : ∀ j, h (ix2 r j) = hr j) (hc : ∀ j, c (ix2 r j) = cr j) (j : Fin 128) :
    cnew (act v16 v18 v20 v25 n h) c (ix2 r j) = Cert.Rows.cNext w (xs n) hr cr j := by
  pointwise [cnew, sg_row H n hn h hr hh 1 (by decide), sg_row H n hn h hr hh 0 (by decide), slc_row H n hn h hr hh, hc, Cert.Rows.cNext]

theorem hnew_row (H : Holds v16 v18 v20 v25 w xs r) (n : ℕ) (hn : n < 20) (h c : FVec Ideal S1024x128 .f32) (hr cr : Fin 128 → EReal)
    (hh : ∀ j, h (ix2 r j) = hr j) (hc : ∀ j, c (ix2 r j) = cr j) (j : Fin 128) :
    hnew (act v16 v18 v20 v25 n h) c (ix2 r j) = Cert.Rows.hNext w (xs n) hr cr j := by
  pointwise [hnew, sg_row H n hn h hr hh 3 (by decide), cnew_row H n hn h c hr cr hh hc, Cert.Rows.hNext]

/-- Row `r` of the kernel's state after `n` steps. -/
theorem stAt_row (H : Holds v16 v18 v20 v25 w xs r) (n : ℕ) (hn : n ≤ 20) :
    (∀ j, (stAt v16 v18 v20 v25 n).1 (ix2 r j) = (Cert.Rows.run w xs n).1 j)
      ∧ ∀ j, (stAt v16 v18 v20 v25 n).2 (ix2 r j) = (Cert.Rows.run w xs n).2 j := by
  induction n with
  | zero => exact ⟨fun j => by pointwise [stAt, Cert.Rows.run], fun j => by pointwise [stAt, Cert.Rows.run]⟩
  | succ n ih =>
    obtain ⟨h1, h2⟩ := ih (by omega)
    exact ⟨fun j => hnew_row H n (by omega) _ _ _ _ h1 h2 j, fun j => cnew_row H n (by omega) _ _ _ _ h1 h2 j⟩

theorem word_toInt : ∀ n < 20, (BitVec.ofNat 32 (n + 1)).toInt = (n : ℤ) + 1 := by decide

theorem word_eq (a : BitVec 32) (n : ℕ) (hn : n < 20) : a = BitVec.ofNat 32 (n + 1) ↔ a.toInt = (n : ℤ) + 1 := by
  constructor
  · rintro rfl; exact word_toInt n hn
  · intro h; apply BitVec.eq_of_toInt_eq; rw [h, word_toInt n hn]

theorem select_eq (a b : BitVec 32) (x y : EReal) : Scalar.select (IntOp.cmpi CmpIPredicate.eq a b) x y = if a = b then x else y := by
  by_cases h : a = b
  · simp [Scalar.select, IntOp.cmpi, h]
  · have e : (a == b) = false := by simpa using h
    simp [Scalar.select, IntOp.cmpi, h, e]

/-- Row `r` of what the kernel picks. -/
theorem pickAt_row (H : Holds v16 v18 v20 v25 w xs r) (v12 : IVec S1024x128 32) (a : BitVec 32) (ha : ∀ j, v12 (ix2 r j) = a)
    (n : ℕ) (hn : n ≤ 20) (j : Fin 128) :
    pickAt v12 v16 v18 v20 v25 n (ix2 r j) = Cert.Rows.picked w xs a.toInt n j := by
  induction n with
  | zero => pointwise [pickAt, Cert.Rows.picked]
  | succ n ih =>
    have e : pickAt v12 v16 v18 v20 v25 (n + 1) (ix2 r j) =
        if a = BitVec.ofNat 32 (n + 1) then hidAt v16 v18 v20 v25 (n + 1) (ix2 r j) else pickAt v12 v16 v18 v20 v25 n (ix2 r j) := by
      pointwise [pickAt, ha, select_eq]
    rw [e, ih (by omega), hidAt, (stAt_row H (n + 1) hn).1 j, Cert.Rows.picked]
    by_cases h : a = BitVec.ofNat 32 (n + 1)
    · rw [if_pos h, if_pos ((word_eq a n (by omega)).1 h)]
    · rw [if_neg h, if_neg fun h' => h ((word_eq a n (by omega)).2 h')]

end Cert.KernelIdeal.Hand
end
-- ==== Proof.HostValues.lean ====
module

public import proofs.«01_k».proof.Proof.Result
public import proofs.«01_k».proof.Proof.KernelRow
public import proofs.«01_k».proof.Proof.Gen.KernelIdeal.Value

@[expose] public section

noncomputable section

/-! What the arrays hold that the kernel's windows read, element by element. -/

namespace Cert.KernelIdeal.Hand

open Idealize.ShloMosaic Idealize.ShloMosaic.TcCoe Cert.KernelIdeal.Gen

variable (m : (ℓ : Loc nD τ sig) → Buf (Elt Ideal) ℓ)

/-- The arguments as they lie in memory. -/
def args (c : Dev nD) : Cert.Rows.Args where
  xr := m ((c : Thread nD τ).loc main_arg0)
  xw := m ((c : Thread nD τ).loc main_arg1)
  xn := m ((c : Thread nD τ).loc main_arg2)
  wr := m ((c : Thread nD τ).loc main_arg3)
  br := m ((c : Thread nD τ).loc main_arg4)
  wih := m ((c : Thread nD τ).loc main_arg5)
  whh := m ((c : Thread nD τ).loc main_arg6)
  bih := m ((c : Thread nD τ).loc main_arg7)
  bhh := m ((c : Thread nD τ).loc main_arg8)
  wc := m ((c : Thread nD τ).loc main_arg9)
  bc := m ((c : Thread nD τ).loc main_arg10)
  gamma := m ((c : Thread nD τ).loc main_arg11)
  beta := m ((c : Thread nD τ).loc main_arg12)

theorem V0 (c : Dev nD) : V m c main_v0 = shapeCast S4096x128 (args m c).xr shapeCasts_S8x512x128_S4096x128 := by
  show StableHlo.after hostOps0 (fun b => m (c, b)) _ = _
  after_results
  rfl

theorem V0_apply (c : Dev nD) (a : Fin 4096) (i : Fin 128) :
    V m c main_v0 (ix2 a i) = (args m c).xr (ix3 (Cert.Rows.Args.hi a) (Cert.Rows.Args.lo a) i) := by
  rw [V0]; pointwise; rfl

theorem V1 (c : Dev nD) : V m c main_v1 = shapeCast S4096x20x64 (args m c).xw shapeCasts_S8x512x20x64_S4096x20x64 := by
  show StableHlo.after hostOps0 (fun b => m (c, b)) _ = _
  after_results
  rfl

theorem V1_apply (c : Dev nD) (a : Fin 4096) (n : Fin 20) (i : Fin 64) :
    V m c main_v1 (ix3 a n i) = (args m c).xw (ix4 (Cert.Rows.Args.hi a) (Cert.Rows.Args.lo a) n i) := by
  rw [V1]; pointwise; rfl

theorem V5 (c : Dev nD) : V m c main_v5 = broadcastInDim S4096x128 ![0, 1] bcast_S4096x1_S4096x128_0_1 (shapeCast S4096x1 (shapeCast S8x512
      (extractStridedSlice S8x512x1 ![0, 0, 3] (args m c).xn slices_S8x512x4_S8x512x1_0_0_3) shapeCasts_S8x512x1_S8x512) shapeCasts_S8x512_S4096x1) := by
  show StableHlo.after hostOps0 (fun b => m (c, b)) _ = _
  after_results
  rfl

theorem V5_apply (c : Dev nD) (a : Fin 4096) (j : Fin 128) :
    V m c main_v5 (ix2 a j) = (args m c).len a := by
  rw [V5]; pointwise; rfl

theorem V6 (c : Dev nD) : V m c main_v6 = transpose S128x128 [1, 0] (args m c).wr transposes_S128x128_S128x128_1_0 := by
  show StableHlo.after hostOps0 (fun b => m (c, b)) _ = _
  after_results
  rfl

theorem V6_apply (c : Dev nD) (i j : Fin 128) :
    V m c main_v6 (ix2 i j) = (args m c).wr (ix2 j i) := by
  rw [V6]; pointwise

/-- The scaling the host builds out of four pieces. -/
def scaling : FVec Ideal S512 .f32 :=
  concatenate S512 0 [⟨S128, broadcastInDim S128 ![] bcast_S_S128 (constant S_ .f32 0x3F000000#32)⟩,
    ⟨S128, broadcastInDim S128 ![] bcast_S_S128 (constant S_ .f32 0x3F000000#32)⟩,
    ⟨S128, broadcastInDim S128 ![] bcast_S_S128 (constant S_ .f32 0x3F800000#32)⟩,
    ⟨S128, broadcastInDim S128 ![] bcast_S_S128 (constant S_ .f32 0x3F000000#32)⟩] concatenates_S128_S128_S128_S128_S512_d0

theorem scaling_apply (k : Fin 512) : scaling (ix1 k) = ((scale k : ℝ) : EReal) := by
  pointwise [scaling, Cert.Rows.ofBits_half]
  unfold scale
  split_ifs <;> first | rfl | omega | simp

theorem V18 (c : Dev nD) : V m c main_v18 = transpose S64x512 [1, 0] (mulf (args m c).wih (broadcastInDim S512x64 ![0, 1] bcast_S512x1_S512x64_0_1 (broadcastInDim S512x1 ![0] bcast_S512_S512x1_0 scaling))) transposes_S512x64_S64x512_1_0 := by
  show StableHlo.after hostOps0 (fun b => m (c, b)) _ = _
  after_results
  rfl

theorem V18_apply (c : Dev nD) (i : Fin 64) (k : Fin 512) :
    V m c main_v18 (ix2 i k) = (args m c).wih (ix2 k i) * ((scale k : ℝ) : EReal) := by
  rw [V18]; pointwise [scaling_apply]

theorem V22 (c : Dev nD) : V m c main_v22 = transpose S128x512 [1, 0] (mulf (args m c).whh (broadcastInDim S512x128 ![0, 1] bcast_S512x1_S512x128_0_1 (broadcastInDim S512x1 ![0] bcast_S512_S512x1_0 scaling))) transposes_S512x128_S128x512_1_0 := by
  show StableHlo.after hostOps0 (fun b => m (c, b)) _ = _
  after_results
  rfl

theorem V22_apply (c : Dev nD) (j : Fin 128) (k : Fin 512) :
    V m c main_v22 (ix2 j k) = (args m c).whh (ix2 k j) * ((scale k : ℝ) : EReal) := by
  rw [V22]; pointwise [scaling_apply]

theorem V25 (c : Dev nD) : V m c main_v25 = shapeCast S1x512 (mulf (addf (args m c).bih (args m c).bhh) scaling) shapeCasts_S512_S1x512 := by
  show StableHlo.after hostOps0 (fun b => m (c, b)) _ = _
  after_results
  rfl

theorem V25_apply (c : Dev nD) (k : Fin 512) :
    V m c main_v25 (ix2 0 k) = ((args m c).bih (ix1 k) + (args m c).bhh (ix1 k)) * ((scale k : ℝ) : EReal) := by
  rw [V25]; pointwise [scaling_apply]

theorem V26 (c : Dev nD) : V m c main_v26 = transpose S256x256 [1, 0] (args m c).wc transposes_S256x256_S256x256_1_0 := by
  show StableHlo.after hostOps0 (fun b => m (c, b)) _ = _
  after_results
  rfl

theorem V26_apply (c : Dev nD) (i k : Fin 256) :
    V m c main_v26 (ix2 i k) = (args m c).wc (ix2 k i) := by
  rw [V26]; pointwise

theorem V27 (c : Dev nD) : V m c main_v27 = shapeCast S1x128 (args m c).br shapeCasts_S128_S1x128 := by
  show StableHlo.after hostOps0 (fun b => m (c, b)) _ = _
  after_results
  rfl

theorem V27_apply (c : Dev nD) (k : Fin 128) :
    V m c main_v27 (ix2 0 k) = (args m c).br (ix1 k) := by
  rw [V27]; pointwise

theorem V28 (c : Dev nD) : V m c main_v28 = shapeCast S1x256 (args m c).bc shapeCasts_S256_S1x256 := by
  show StableHlo.after hostOps0 (fun b => m (c, b)) _ = _
  after_results
  rfl

theorem V28_apply (c : Dev nD) (k : Fin 256) :
    V m c main_v28 (ix2 0 k) = (args m c).bc (ix1 k) := by
  rw [V28]; pointwise

theorem V29 (c : Dev nD) : V m c main_v29 = shapeCast S1x256 (args m c).gamma shapeCasts_S256_S1x256 := by
  show StableHlo.after hostOps0 (fun b => m (c, b)) _ = _
  after_results
  rfl

theorem V29_apply (c : Dev nD) (k : Fin 256) :
    V m c main_v29 (ix2 0 k) = (args m c).gamma (ix1 k) := by
  rw [V29]; pointwise

theorem V30 (c : Dev nD) : V m c main_v30 = shapeCast S1x256 (args m c).beta shapeCasts_S256_S1x256 := by
  show StableHlo.after hostOps0 (fun b => m (c, b)) _ = _
  after_results
  rfl

theorem V30_apply (c : Dev nD) (k : Fin 256) :
    V m c main_v30 (ix2 0 k) = (args m c).beta (ix1 k) := by
  rw [V30]; pointwise

end Cert.KernelIdeal.Hand
end
-- ==== Proof.BlockStored.lean ====
module

public import proofs.«01_k».proof.Proof.BlockTerm

@[expose] public section

set_option maxRecDepth 16384

noncomputable section

/-! The block a grid point stores, from the twelve input blocks it reads. -/

namespace Cert.KernelIdeal.Hand

open Idealize.ShloMosaic Idealize.ShloMosaic.TcCoe Idealize.ShloMosaic.Tactic Cert.KernelIdeal.Gen

variable {F : FTy → Type} [FloatOps F]
variable (m : (ℓ : Loc nD τ sig) → Buf (Elt F) ℓ)

theorem hz2 : (![0, 0] : Fin 2 → ℕ) = fun _ => 0 := by funext a; fin_cases a <;> rfl
theorem hz3 : (![0, 0, 0] : Fin 3 → ℕ) = fun _ => 0 := by funext a; fin_cases a <;> rfl

/-- A whole block of two axes loaded from a buffer that holds it. -/
theorem load2 {sp : Space} {a b : ℕ} {e : EltTy} (M : Memref sig .tc sp ⟨2, ![a, b]⟩ e)
    (h : M.IsWhole) (X : Vec F ⟨2, ![a, b]⟩ e) (inb : ∀ i, (![0, 0] : Fin 2 → ℕ) i + (![a, b] : Fin 2 → ℕ) i ≤ (![a, b] : Fin 2 → ℕ) i) :
    View.readAt (Elt F) M.view (Rect.unit (s := ⟨2, ![a, b]⟩) ![0, 0] ![a, b] inb).toLoadRect (h.unread X) = X := by
  rw [View.readAt_eq_ld, h.read_unread]
  exact View.ld_unit_zero (S := ⟨2, ![a, b]⟩) hz2 inb X

/-- A whole block of three axes loaded from a buffer that holds it. -/
theorem load3 {sp : Space} {a b d : ℕ} {e : EltTy} (M : Memref sig .tc sp ⟨3, ![a, b, d]⟩ e)
    (h : M.IsWhole) (X : Vec F ⟨3, ![a, b, d]⟩ e) (inb : ∀ i, (![0, 0, 0] : Fin 3 → ℕ) i + (![a, b, d] : Fin 3 → ℕ) i ≤ (![a, b, d] : Fin 3 → ℕ) i) :
    View.readAt (Elt F) M.view (Rect.unit (s := ⟨3, ![a, b, d]⟩) ![0, 0, 0] ![a, b, d] inb).toLoadRect (h.unread X) = X := by
  rw [View.readAt_eq_ld, h.read_unread]
  exact View.ld_unit_zero (S := ⟨3, ![a, b, d]⟩) hz3 inb X

/-- The stored block as one term over the input blocks. -/
def blockOut (x0 : Vec F S1024x128 .i32) (x1 : Vec F S1024x128 .f32) (x2 : Vec F S1024x20x64 .f32) (x3 : Vec F S128x128 .f32)
    (x4 : Vec F S1x128 .f32) (x5 : Vec F S64x512 .f32) (x6 : Vec F S128x512 .f32) (x7 : Vec F S1x512 .f32)
    (x8 : Vec F S256x256 .f32) (x9 x10 x11 : Vec F S1x256 .f32) : FVec F S1024x256 .f32 :=
  k0_pay1 (centred (k0_pay2 x1 x3 x4) (pickAt (k0_pay3 x0) (k0_pay4 x2) (k0_pay5 x5) (k0_pay6 x7) (k0_pay9 x6) 20) x8 x9) x10 x11

set_option maxHeartbeats 2000000 in
/-- What grid point `t` leaves in the output block. -/
theorem stored (c : Dev nD) (t : Fin cfg0.N) : outsAt0 m c t =
    blockOut (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) := by
  unfold outsAt0 out0_A_12
  rw [View.read_writes_eq_canon _ _ _ (cover0_A_12 c _ _ _ _ _ _ _ _ _ _ _ _ _ _ _ _ _ _ _ _ _ _ _ _ _ _ _ _ _ _ _ _ _ _ _ _ _ _ _ _ _ )]
  unfold kernelRun0_A
  dsimp only
  rw [View.canon_unit_zero (S := S1024x256) hz2]
  sl_unfold_words
  simp only [load2, load3]
  simp only [pay10_val, pay11_val, pay12_val, pay14_val, pay16_val, pay17_val, pay18_val, pay19_val, pay23_val, pay25_val, pay26_val, pay27_val, pay28_val, pay30_val, pay32_val, pay33_val, pay34_val, pay35_val, pay39_val, pay41_val, pay42_val, pay43_val, pay44_val, pay46_val, pay48_val, pay49_val, pay50_val, pay51_val, pay55_val, pay57_val, pay58_val, pay59_val, pay60_val, pay62_val, pay64_val, pay65_val, pay66_val, pay67_val, pay71_val, pay73_val, pay74_val, pay75_val, pay76_val, pay78_val, pay80_val, pay81_val, pay82_val, pay83_val, pay87_val, pay89_val, pay90_val, pay91_val, pay92_val, pay94_val, pay96_val, pay97_val, pay98_val, pay99_val, pay103_val, pay105_val, pay106_val, pay107_val, pay108_val, pay110_val, pay112_val, pay113_val, pay114_val, pay115_val, pay116_val]
  rfl

end Cert.KernelIdeal.Hand
end
-- ==== Proof.KernelArray.lean ====
module

public import proofs.«01_k».proof.Proof.HostValues
public import proofs.«01_k».proof.Proof.BlockStored

@[expose] public section

noncomputable section

/-! The array the kernel's run leaves: block by block, then as a whole. -/

namespace Cert.KernelIdeal.Hand

open Idealize.ShloMosaic Idealize.ShloMosaic.TcCoe Cert.KernelIdeal.Gen

variable (m : (ℓ : Loc nD τ sig) → Buf (Elt Ideal) ℓ)

/-! ## Where a block's rows lie -/

/-- Row `r` of block `t`, as a row of the array. -/
def rowOf (t : Fin cfg0.N) (r : Fin 1024) : Fin 4096 := ⟨t.1 * 1024 + r.1, by have h : t.1 < 4 := t.isLt; omega⟩

theorem index0 : ∀ t : Fin cfg0.N, win0_0.index t (0 : Fin 2) = t.1 ∧ win0_0.index t (1 : Fin 2) = 0 :=
  (by decide +kernel : ∀ t : Fin grid0.N, _)

theorem emb0 (t : Fin cfg0.N) (r : Fin 1024) (k : Fin 128) : ((cfg0.win 0).blk t).view.emb (ix2 r k) = ix2 (rowOf t r) k := by
  obtain ⟨e0, e1⟩ := index0 t
  funext a; apply Fin.ext
  match a with
  | ⟨0, _⟩ => show win0_0.index t (0 : Fin 2) * 1024 + 1 * r.1 = t.1 * 1024 + r.1; omega
  | ⟨1, _⟩ => show win0_0.index t (1 : Fin 2) * 128 + 1 * k.1 = k.1; omega

theorem blk0 (c : Dev nD) (t : Fin cfg0.N) (r : Fin 1024) (k : Fin 128) : iblk m c 0 t (ix2 r k) = V m c main_v5 (ix2 (rowOf t r) k) := by
  show V m c main_v5 (((cfg0.win 0).blk t).view.emb (ix2 r k)) = _
  rw [emb0]

theorem index1 : ∀ t : Fin cfg0.N, win0_1.index t (0 : Fin 2) = t.1 ∧ win0_1.index t (1 : Fin 2) = 0 :=
  (by decide +kernel : ∀ t : Fin grid0.N, _)

theorem emb1 (t : Fin cfg0.N) (r : Fin 1024) (k : Fin 128) : ((cfg0.win 1).blk t).view.emb (ix2 r k) = ix2 (rowOf t r) k := by
  obtain ⟨e0, e1⟩ := index1 t
  funext a; apply Fin.ext
  match a with
  | ⟨0, _⟩ => show win0_1.index t (0 : Fin 2) * 1024 + 1 * r.1 = t.1 * 1024 + r.1; omega
  | ⟨1, _⟩ => show win0_1.index t (1 : Fin 2) * 128 + 1 * k.1 = k.1; omega

theorem blk1 (c : Dev nD) (t : Fin cfg0.N) (r : Fin 1024) (k : Fin 128) : iblk m c 1 t (ix2 r k) = V m c main_v0 (ix2 (rowOf t r) k) := by
  show V m c main_v0 (((cfg0.win 1).blk t).view.emb (ix2 r k)) = _
  rw [emb1]

theorem index2 : ∀ t : Fin cfg0.N, win0_2.index t (0 : Fin 3) = t.1 ∧ win0_2.index t (1 : Fin 3) = 0 ∧ win0_2.index t (2 : Fin 3) = 0 :=
  (by decide +kernel : ∀ t : Fin grid0.N, _)

theorem emb2 (t : Fin cfg0.N) (r : Fin 1024) (k : Fin 20) (l : Fin 64) : ((cfg0.win 2).blk t).view.emb (ix3 r k l) = ix3 (rowOf t r) k l := by
  obtain ⟨e0, e1, e2⟩ := index2 t
  funext a; apply Fin.ext
  match a with
  | ⟨0, _⟩ => show win0_2.index t (0 : Fin 3) * 1024 + 1 * r.1 = t.1 * 1024 + r.1; omega
  | ⟨1, _⟩ => show win0_2.index t (1 : Fin 3) * 20 + 1 * k.1 = k.1; omega
  | ⟨2, _⟩ => show win0_2.index t (2 : Fin 3) * 64 + 1 * l.1 = l.1; omega

theorem blk2 (c : Dev nD) (t : Fin cfg0.N) (r : Fin 1024) (k : Fin 20) (l : Fin 64) : iblk m c 2 t (ix3 r k l) = V m c main_v1 (ix3 (rowOf t r) k l) := by
  show V m c main_v1 (((cfg0.win 2).blk t).view.emb (ix3 r k l)) = _
  rw [emb2]

theorem index3 : ∀ t : Fin cfg0.N, win0_3.index t (0 : Fin 2) = 0 ∧ win0_3.index t (1 : Fin 2) = 0 :=
  (by decide +kernel : ∀ t : Fin grid0.N, _)

theorem emb3 (t : Fin cfg0.N) (r : Fin 128) (k : Fin 128) : ((cfg0.win 3).blk t).view.emb (ix2 r k) = ix2 r k := by
  obtain ⟨e0, e1⟩ := index3 t
  funext a; apply Fin.ext
  match a with
  | ⟨0, _⟩ => show win0_3.index t (0 : Fin 2) * 128 + 1 * r.1 = r.1; omega
  | ⟨1, _⟩ => show win0_3.index t (1 : Fin 2) * 128 + 1 * k.1 = k.1; omega

theorem blk3 (c : Dev nD) (t : Fin cfg0.N) (r : Fin 128) (k : Fin 128) : iblk m c 3 t (ix2 r k) = V m c main_v6 (ix2 r k) := by
  show V m c main_v6 (((cfg0.win 3).blk t).view.emb (ix2 r k)) = _
  rw [emb3]

theorem index4 : ∀ t : Fin cfg0.N, win0_4.index t (0 : Fin 2) = 0 ∧ win0_4.index t (1 : Fin 2) = 0 :=
  (by decide +kernel : ∀ t : Fin grid0.N, _)

theorem emb4 (t : Fin cfg0.N) (r : Fin 1) (k : Fin 128) : ((cfg0.win 4).blk t).view.emb (ix2 r k) = ix2 r k := by
  obtain ⟨e0, e1⟩ := index4 t
  funext a; apply Fin.ext
  match a with
  | ⟨0, _⟩ => show win0_4.index t (0 : Fin 2) * 1 + 1 * r.1 = r.1; omega
  | ⟨1, _⟩ => show win0_4.index t (1 : Fin 2) * 128 + 1 * k.1 = k.1; omega

theorem blk4 (c : Dev nD) (t : Fin cfg0.N) (r : Fin 1) (k : Fin 128) : iblk m c 4 t (ix2 r k) = V m c main_v27 (ix2 r k) := by
  show V m c main_v27 (((cfg0.win 4).blk t).view.emb (ix2 r k)) = _
  rw [emb4]

theorem index5 : ∀ t : Fin cfg0.N, win0_5.index t (0 : Fin 2) = 0 ∧ win0_5.index t (1 : Fin 2) = 0 :=
  (by decide +kernel : ∀ t : Fin grid0.N, _)

theorem emb5 (t : Fin cfg0.N) (r : Fin 64) (k : Fin 512) : ((cfg0.win 5).blk t).view.emb (ix2 r k) = ix2 r k := by
  obtain ⟨e0, e1⟩ := index5 t
  funext a; apply Fin.ext
  match a with
  | ⟨0, _⟩ => show win0_5.index t (0 : Fin 2) * 64 + 1 * r.1 = r.1; omega
  | ⟨1, _⟩ => show win0_5.index t (1 : Fin 2) * 512 + 1 * k.1 = k.1; omega

theorem blk5 (c : Dev nD) (t : Fin cfg0.N) (r : Fin 64) (k : Fin 512) : iblk m c 5 t (ix2 r k) = V m c main_v18 (ix2 r k) := by
  show V m c main_v18 (((cfg0.win 5).blk t).view.emb (ix2 r k)) = _
  rw [emb5]

theorem index6 : ∀ t : Fin cfg0.N, win0_6.index t (0 : Fin 2) = 0 ∧ win0_6.index t (1 : Fin 2) = 0 :=
  (by decide +kernel : ∀ t : Fin grid0.N, _)

theorem emb6 (t : Fin cfg0.N) (r : Fin 128) (k : Fin 512) : ((cfg0.win 6).blk t).view.emb (ix2 r k) = ix2 r k := by
  obtain ⟨e0, e1⟩ := index6 t
  funext a; apply Fin.ext
  match a with
  | ⟨0, _⟩ => show win0_6.index t (0 : Fin 2) * 128 + 1 * r.1 = r.1; omega
  | ⟨1, _⟩ => show win0_6.index t (1 : Fin 2) * 512 + 1 * k.1 = k.1; omega

theorem blk6 (c : Dev nD) (t : Fin cfg0.N) (r : Fin 128) (k : Fin 512) : iblk m c 6 t (ix2 r k) = V m c main_v22 (ix2 r k) := by
  show V m c main_v22 (((cfg0.win 6).blk t).view.emb (ix2 r k)) = _
  rw [emb6]

theorem index7 : ∀ t : Fin cfg0.N, win0_7.index t (0 : Fin 2) = 0 ∧ win0_7.index t (1 : Fin 2) = 0 :=
  (by decide +kernel : ∀ t : Fin grid0.N, _)

theorem emb7 (t : Fin cfg0.N) (r : Fin 1) (k : Fin 512) : ((cfg0.win 7).blk t).view.emb (ix2 r k) = ix2 r k := by
  obtain ⟨e0, e1⟩ := index7 t
  funext a; apply Fin.ext
  match a with
  | ⟨0, _⟩ => show win0_7.index t (0 : Fin 2) * 1 + 1 * r.1 = r.1; omega
  | ⟨1, _⟩ => show win0_7.index t (1 : Fin 2) * 512 + 1 * k.1 = k.1; omega

theorem blk7 (c : Dev nD) (t : Fin cfg0.N) (r : Fin 1) (k : Fin 512) : iblk m c 7 t (ix2 r k) = V m c main_v25 (ix2 r k) := by
  show V m c main_v25 (((cfg0.win 7).blk t).view.emb (ix2 r k)) = _
  rw [emb7]

theorem index8 : ∀ t : Fin cfg0.N, win0_8.index t (0 : Fin 2) = 0 ∧ win0_8.index t (1 : Fin 2) = 0 :=
  (by decide +kernel : ∀ t : Fin grid0.N, _)

theorem emb8 (t : Fin cfg0.N) (r : Fin 256) (k : Fin 256) : ((cfg0.win 8).blk t).view.emb (ix2 r k) = ix2 r k := by
  obtain ⟨e0, e1⟩ := index8 t
  funext a; apply Fin.ext
  match a with
  | ⟨0, _⟩ => show win0_8.index t (0 : Fin 2) * 256 + 1 * r.1 = r.1; omega
  | ⟨1, _⟩ => show win0_8.index t (1 : Fin 2) * 256 + 1 * k.1 = k.1; omega

theorem blk8 (c : Dev nD) (t : Fin cfg0.N) (r : Fin 256) (k : Fin 256) : iblk m c 8 t (ix2 r k) = V m c main_v26 (ix2 r k) := by
  show V m c main_v26 (((cfg0.win 8).blk t).view.emb (ix2 r k)) = _
  rw [emb8]

theorem index9 : ∀ t : Fin cfg0.N, win0_9.index t (0 : Fin 2) = 0 ∧ win0_9.index t (1 : Fin 2) = 0 :=
  (by decide +kernel : ∀ t : Fin grid0.N, _)

theorem emb9 (t : Fin cfg0.N) (r : Fin 1) (k : Fin 256) : ((cfg0.win 9).blk t).view.emb (ix2 r k) = ix2 r k := by
  obtain ⟨e0, e1⟩ := index9 t
  funext a; apply Fin.ext
  match a with
  | ⟨0, _⟩ => show win0_9.index t (0 : Fin 2) * 1 + 1 * r.1 = r.1; omega
  | ⟨1, _⟩ => show win0_9.index t (1 : Fin 2) * 256 + 1 * k.1 = k.1; omega

theorem blk9 (c : Dev nD) (t : Fin cfg0.N) (r : Fin 1) (k : Fin 256) : iblk m c 9 t (ix2 r k) = V m c main_v28 (ix2 r k) := by
  show V m c main_v28 (((cfg0.win 9).blk t).view.emb (ix2 r k)) = _
  rw [emb9]

theorem index10 : ∀ t : Fin cfg0.N, win0_10.index t (0 : Fin 2) = 0 ∧ win0_10.index t (1 : Fin 2) = 0 :=
  (by decide +kernel : ∀ t : Fin grid0.N, _)

theorem emb10 (t : Fin cfg0.N) (r : Fin 1) (k : Fin 256) : ((cfg0.win 10).blk t).view.emb (ix2 r k) = ix2 r k := by
  obtain ⟨e0, e1⟩ := index10 t
  funext a; apply Fin.ext
  match a with
  | ⟨0, _⟩ => show win0_10.index t (0 : Fin 2) * 1 + 1 * r.1 = r.1; omega
  | ⟨1, _⟩ => show win0_10.index t (1 : Fin 2) * 256 + 1 * k.1 = k.1; omega

theorem blk10 (c : Dev nD) (t : Fin cfg0.N) (r : Fin 1) (k : Fin 256) : iblk m c 10 t (ix2 r k) = V m c main_v29 (ix2 r k) := by
  show V m c main_v29 (((cfg0.win 10).blk t).view.emb (ix2 r k)) = _
  rw [emb10]

theorem index11 : ∀ t : Fin cfg0.N, win0_11.index t (0 : Fin 2) = 0 ∧ win0_11.index t (1 : Fin 2) = 0 :=
  (by decide +kernel : ∀ t : Fin grid0.N, _)

theorem emb11 (t : Fin cfg0.N) (r : Fin 1) (k : Fin 256) : ((cfg0.win 11).blk t).view.emb (ix2 r k) = ix2 r k := by
  obtain ⟨e0, e1⟩ := index11 t
  funext a; apply Fin.ext
  match a with
  | ⟨0, _⟩ => show win0_11.index t (0 : Fin 2) * 1 + 1 * r.1 = r.1; omega
  | ⟨1, _⟩ => show win0_11.index t (1 : Fin 2) * 256 + 1 * k.1 = k.1; omega

theorem blk11 (c : Dev nD) (t : Fin cfg0.N) (r : Fin 1) (k : Fin 256) : iblk m c 11 t (ix2 r k) = V m c main_v30 (ix2 r k) := by
  show V m c main_v30 (((cfg0.win 11).blk t).view.emb (ix2 r k)) = _
  rw [emb11]

theorem index12 : ∀ t : Fin cfg0.N, win0_12.index t (0 : Fin 2) = t.1 ∧ win0_12.index t (1 : Fin 2) = 0 :=
  (by decide +kernel : ∀ t : Fin grid0.N, _)

theorem emb12 (t : Fin cfg0.N) (r : Fin 1024) (k : Fin 256) : ((cfg0.win 12).blk t).view.emb (ix2 r k) = ix2 (rowOf t r) k := by
  obtain ⟨e0, e1⟩ := index12 t
  funext a; apply Fin.ext
  match a with
  | ⟨0, _⟩ => show win0_12.index t (0 : Fin 2) * 1024 + 1 * r.1 = t.1 * 1024 + r.1; omega
  | ⟨1, _⟩ => show win0_12.index t (1 : Fin 2) * 256 + 1 * k.1 = k.1; omega

end Cert.KernelIdeal.Hand
end
-- ==== Proof.KernelFinal.lean ====
module

public import proofs.«01_k».proof.Proof.KernelArray

@[expose] public section

noncomputable section

/-! The kernel's result array as a function of the arguments. -/

namespace Cert.KernelIdeal.Hand

open Idealize.ShloMosaic Idealize.ShloMosaic.TcCoe Cert.KernelIdeal.Gen Idealize.SL.Sem

/-- One element of a stored block, from row `r` of the input blocks. -/
theorem blockOut_row (x0 : IVec S1024x128 32) (x1 : FVec Ideal S1024x128 .f32) (x2 : FVec Ideal S1024x20x64 .f32) (x3 : FVec Ideal S128x128 .f32)
    (x4 : FVec Ideal S1x128 .f32) (x5 : FVec Ideal S64x512 .f32) (x6 : FVec Ideal S128x512 .f32) (x7 : FVec Ideal S1x512 .f32)
    (x8 : FVec Ideal S256x256 .f32) (x9 x10 x11 : FVec Ideal S1x256 .f32) (w : Cert.Rows.Weights) (xs : ℕ → Fin 64 → EReal) (r : Fin 1024)
    (H : Holds (k0_pay4 (F := Ideal) x2) x5 x7 x6 w xs r) (a : BitVec 32) (ha : ∀ j, x0 (ix2 r j) = a)
    (y1 : Fin 128 → EReal) (h1 : ∀ i, x1 (ix2 r i) = y1 i) (y3 : Fin 128 → Fin 128 → EReal) (h3 : ∀ i j, x3 (ix2 i j) = y3 j i)
    (y4 : Fin 128 → EReal) (h4 : ∀ j, x4 (ix2 0 j) = y4 j) (y8 : Fin 256 → Fin 256 → EReal) (h8 : ∀ i k, x8 (ix2 i k) = y8 k i)
    (y9 y10 y11 : Fin 256 → EReal) (h9 : ∀ k, x9 (ix2 0 k) = y9 k) (h10 : ∀ k, x10 (ix2 0 k) = y10 k) (h11 : ∀ k, x11 (ix2 0 k) = y11 k)
    (k : Fin 256) :
    blockOut (F := Ideal) x0 x1 x2 x3 x4 x5 x6 x7 x8 x9 x10 x11 (ix2 r k) =
      Cert.Rows.layerNorm (Cert.Rows.linear (Cert.Rows.beside (Cert.Rows.relu y1 y3 y4) (Cert.Rows.picked w xs a.toInt 20)) y8 y9) y10 y11 k := by
  unfold blockOut
  rw [pay1_apply, centred, normed_apply, pay5_val, pay6_val, pay9_val, ← Cert.Rows.layerNorm_rsqrt]
  have e2 : ∀ j, k0_pay2 (F := Ideal) x1 x3 x4 (ix2 r j) = Cert.Rows.relu y1 y3 y4 j := fun j => by
    rw [pay2_apply x1 x3 x4 r j]; simp only [h1, h3, h4]
  have e3 : ∀ j, pickAt (k0_pay3 (F := Ideal) x0) (k0_pay4 (F := Ideal) x2) x5 x7 x6 20 (ix2 r j) = Cert.Rows.picked w xs a.toInt 20 j :=
    fun j => pickAt_row H _ a (fun j => (pay3_apply x0 r j).trans (ha j)) 20 le_rfl j
  simp only [dense_apply, e2, e3, h8, h9, h10, h11]

variable (m : (ℓ : Loc nD τ sig) → Buf (Elt Ideal) ℓ)

/-- The operands of block `t`'s recursion hold the characters of row `r` and the scaled weights. -/
theorem holds (c : Dev nD) (t : Fin cfg0.N) (r : Fin 1024) :
    Holds (k0_pay4 (F := Ideal) (iblk m c 2 t)) (iblk m c 5 t) (iblk m c 7 t) (iblk m c 6 t) (args m c).lstm ((args m c).chars (rowOf t r)) r where
  x n hn i := by
    have e : n % 20 = n := Nat.mod_eq_of_lt hn
    have e' : (ix2 ⟨1024 * (n % 20) + r.1, by omega⟩ i : S20480x64.Idx) = ix2 ⟨1024 * n + r.1, by omega⟩ i :=
      congrArg (fun q => (ix2 q i : S20480x64.Idx)) (Fin.ext (by show 1024 * (n % 20) + r.1 = _; rw [e]))
    rw [e', pay4_apply _ n hn, blk2, V1_apply, Cert.Rows.Args.chars]
    exact congrArg (fun q => (args m c).xw (ix4 _ _ q i)) (Fin.ext e.symm)
  wi i k := by rw [blk5, V18_apply]; rfl
  wh j k := by rw [blk6, V22_apply]; rfl
  b k := by rw [blk7, V25_apply]; rfl

/-- What a grid point stores, element by element. -/
theorem stored_apply (c : Dev nD) (t : Fin cfg0.N) (r : Fin 1024) (k : Fin 256) :
    outsAt0 m c t (ix2 r k) = (args m c).viaPick (ix2 (rowOf t r) k) := by
  rw [stored]
  exact blockOut_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (args m c).lstm ((args m c).chars (rowOf t r)) r
    (holds m c t r) ((args m c).len (rowOf t r)) (fun j => by rw [blk0, V5_apply])
    (fun i => (args m c).xr (ix3 (Cert.Rows.Args.hi (rowOf t r)) (Cert.Rows.Args.lo (rowOf t r)) i)) (fun i => by rw [blk1, V0_apply])
    (fun j i => (args m c).wr (ix2 j i)) (fun i j => by rw [blk3, V6_apply])
    (fun j => (args m c).br (ix1 j)) (fun j => by rw [blk4, V27_apply])
    (fun k i => (args m c).wc (ix2 k i)) (fun i k => by rw [blk8, V26_apply])
    (fun k => (args m c).bc (ix1 k)) (fun k => (args m c).gamma (ix1 k)) (fun k => (args m c).beta (ix1 k))
    (fun k => by rw [blk9, V28_apply]) (fun k => by rw [blk10, V29_apply]) (fun k => by rw [blk11, V30_apply]) k

theorem eq_ix2_1024 (j : S1024x256.Idx) : j = ix2 (j 0) (j 1) := by
  funext a; fin_cases a <;> rfl

/-- What a grid point writes back is its block of the result. -/
theorem flushed12_eq (c : Dev nD) (t : Fin cfg0.N) :
    (dats m 0 c).flushed 12 t = ((cfg0.win 12).blk t).view.read (Elt Ideal) (args m c).viaPick := by
  rw [Value.flushed12_A]
  funext j
  show outsAt0 m c t j = (args m c).viaPick (((cfg0.win 12).blk t).view.emb j)
  obtain ⟨r, k, rfl⟩ : ∃ (r : Fin 1024) (k : Fin 256), j = (ix2 r k : S1024x256.Idx) := ⟨j 0, j 1, eq_ix2_1024 j⟩
  exact (stored_apply m c t r k).trans (congrArg (args m c).viaPick (emb12 t r k).symm)

/-- Every element of the result lies in some block. -/
theorem covered12 (i : S4096x256.Idx) : ∃ t : Fin cfg0.N, (cfg0.win 12).flush t = true ∧ i ∈ ((cfg0.win 12).blk t).view.set := by
  have h0 : (i 0).1 < 4096 := (i 0).isLt
  refine ⟨(⟨(i 0).1 / 1024, by show (i 0).1 / 1024 < 4; omega⟩ : Fin cfg0.N), flush0_12 _, ?_⟩
  have h := ((cfg0.win 12).blk (⟨(i 0).1 / 1024, by show (i 0).1 / 1024 < 4; omega⟩ : Fin cfg0.N)).view.emb_mem_set
    (ix2 (⟨(i 0).1 % 1024, by omega⟩ : Fin 1024) (i 1) : S1024x256.Idx)
  rw [show ((cfg0.win 12).blk (⟨(i 0).1 / 1024, by show (i 0).1 / 1024 < 4; omega⟩ : Fin cfg0.N)).view.emb
    (ix2 (⟨(i 0).1 % 1024, by omega⟩ : Fin 1024) (i 1) : S1024x256.Idx) = _ from emb12 _ _ _] at h
  have e : (ix2 (rowOf (⟨(i 0).1 / 1024, by show (i 0).1 / 1024 < 4; omega⟩ : Fin cfg0.N) ⟨(i 0).1 % 1024, by omega⟩) (i 1) : S4096x256.Idx) = i := by
    funext a; apply Fin.ext
    match a with
    | ⟨0, _⟩ => show (i 0).1 / 1024 * 1024 + (i 0).1 % 1024 = (i 0).1; omega
    | ⟨1, _⟩ => rfl
  rwa [e] at h

/-- The result array after the run. -/
theorem final12 (c : Dev nD) : (dats m 0 c).arrAt 12 cfg0.N = (args m c).viaPick :=
  (dats m 0 c).arrAt_eq_of_cover 12 (args m c).viaPick (fun t _ => flushed12_eq m c t) covered12

end Cert.KernelIdeal.Hand
end
-- ==== Proof.RefStep.lean ====
module

public import proofs.«01_k».proof.Proof.Result
public import proofs.«01_k».proof.Proof.Gen.ReferenceIdeal.Step
public import Idealize.ShloMosaic.Lib.WordCmp

@[expose] public section

noncomputable section

/-! One step of the reference's scan, read row by row. -/

namespace Cert.ReferenceIdeal.Hand

open Idealize.ShloMosaic Idealize.ShloMosaic.TcCoe Cert.ReferenceIdeal.Gen Cert.ReferenceIdeal.Step

variable (s : State Ideal)

theorem word_toInt : ∀ n < 20, (BitVec.ofNat 32 n).toInt = (n : ℤ) := by decide

/-- The characters a step reads. -/
theorem b3_apply (n : ℕ) (hn : n < 20) (a : Fin 4096) (i : Fin 64) : b3 n s (ix2 a i) = s.main_v8_0 (ix3 ⟨n, hn⟩ a i) := by
  have hs : S20x4096x64.Slices ![n, 0, 0] S1x4096x64 := by
    refine ⟨rfl, fun q => ?_⟩
    fin_cases q
    · show n + 1 ≤ 20; omega
    · show 0 + 4096 ≤ 4096; omega
    · show 0 + 64 ≤ 64; omega
  rw [b3, b2, WordCmp.dynamicSlice_eq_extract S1x4096x64 s.main_v8_0 _ _ ![n, 0, 0] hs]
  · pointwise
  · intro q
    fin_cases q
    · exact word_toInt n hn
    · rfl
    · rfl

/-- The step's number, as the scan counts it. -/
theorem b5_apply (n : ℕ) (hn : n < 20) (j : S_.Idx) : b5 n s j = BitVec.ofNat 32 n := by
  have hs : S20.Slices ![n] S1 := by
    refine ⟨rfl, fun q => ?_⟩
    fin_cases q
    show n + 1 ≤ 20; omega
  rw [b5, b4, WordCmp.dynamicSlice_eq_extract S1 _ _ _ ![n] hs]
  · pointwise [K_main_v7]
  · intro q
    fin_cases q
    exact word_toInt n hn

/-- The pre-activations. -/
theorem b16_apply (n : ℕ) (hn : n < 20) (a : Fin 4096) (k : Fin 512) : b16 n s (ix2 a k) =
    ((∑ i : Fin 64, s.main_v8_0 (ix3 ⟨n, hn⟩ a i) * s.main_v8_2 (ix2 k i)) + ∑ j : Fin 128, s.main_v8_8 (ix2 a j) * s.main_v8_3 (ix2 k j))
      + s.main_v8_4 (ix1 k) + s.main_v8_5 (ix1 k) := by
  pointwise [b16, b15, b14, b13, b12, b11, b10, b9, b8, b7, b6, b3_apply s n hn]

variable {s}

/-- Row `a` of the scan's values: its characters, the weights, its length and its state. -/
structure Holds (s : State Ideal) (w : Cert.Rows.Weights) (xs : ℕ → Fin 64 → EReal) (L : BitVec 32) (a : Fin 4096)
    (h c : Fin 128 → EReal) : Prop where
  x : ∀ (n : ℕ) (hn : n < 20) (i : Fin 64), s.main_v8_0 (ix3 ⟨n, hn⟩ a i) = xs n i
  wi : ∀ k i, s.main_v8_2 (ix2 k i) = w.wi k i
  wh : ∀ k j, s.main_v8_3 (ix2 k j) = w.wh k j
  bi : ∀ k, s.main_v8_4 (ix1 k) = w.bi k
  bh : ∀ k, s.main_v8_5 (ix1 k) = w.bh k
  len : s.main_v8_6 (ix1 a) = L
  h : ∀ j, s.main_v8_8 (ix2 a j) = h j
  c : ∀ j, s.main_v8_9 (ix2 a j) = c j

variable {w : Cert.Rows.Weights} {xs : ℕ → Fin 64 → EReal} {L : BitVec 32} {a : Fin 4096} {h c : Fin 128 → EReal}

theorem gate_row (H : Holds s w xs L a h c) (n : ℕ) (hn : n < 20) (k : Fin 512) :
    b16 n s (ix2 a k) = Cert.Rows.gate w (xs n) h k := by
  rw [b16_apply s n hn, Cert.Rows.gate]
  simp only [H.x n hn, H.wi, H.wh, H.bi, H.bh, H.h]

theorem b17_apply (n : ℕ) (j : Fin 128) : b17 n s (ix2 a j) = b16 n s (ix2 a (Cert.Rows.lane 0 j)) := by
  pointwise [b17, Cert.Rows.lane]
theorem b18_apply (n : ℕ) (j : Fin 128) : b18 n s (ix2 a j) = b16 n s (ix2 a (Cert.Rows.lane 1 j)) := by
  pointwise [b18, Cert.Rows.lane]
theorem b19_apply (n : ℕ) (j : Fin 128) : b19 n s (ix2 a j) = b16 n s (ix2 a (Cert.Rows.lane 2 j)) := by
  pointwise [b19, Cert.Rows.lane]
theorem b20_apply (n : ℕ) (j : Fin 128) : b20 n s (ix2 a j) = b16 n s (ix2 a (Cert.Rows.lane 3 j)) := by
  pointwise [b20, Cert.Rows.lane]

theorem b40_row (H : Holds s w xs L a h c) (n : ℕ) (hn : n < 20) (j : Fin 128) :
    b40 n s (ix2 a j) = Cert.Rows.cNext w (xs n) h c j := by
  pointwise [b40, b39, b38, b37, b36, b35, b34, b33, b32, b31, b30, b29, b28, b27, b26, b25, b24, b23, b22, b21,
    b17_apply, b18_apply, b19_apply, gate_row H n hn, H.c]
  rfl

theorem b50_row (H : Holds s w xs L a h c) (n : ℕ) (hn : n < 20) (j : Fin 128) :
    b50 n s (ix2 a j) = Cert.Rows.hNext w (xs n) h c j := by
  pointwise [b50, b49, b48, b47, b46, b45, b44, b43, b42, b41, b20_apply, b40_row H n hn, gate_row H n hn]
  rfl

theorem select_slt (p q : BitVec 32) (x y : EReal) :
    Scalar.select (IntOp.cmpi CmpIPredicate.slt p q) x y = if p.toInt < q.toInt then x else y := by
  by_cases e : p.toInt < q.toInt
  · have e' : p.slt q = true := by simpa [BitVec.slt] using e
    simp [Scalar.select, IntOp.cmpi, e, e']
  · have e' : p.slt q = false := by simpa [BitVec.slt] using e
    simp [Scalar.select, IntOp.cmpi, e, e']

theorem b55_row (H : Holds s w xs L a h c) (n : ℕ) (hn : n < 20) (j : Fin 128) :
    b55 n s (ix2 a j) = if (n : ℤ) < L.toInt then Cert.Rows.hNext w (xs n) h c j else h j := by
  pointwise [b55, b54, b53, b52, b51, b5_apply s n hn, b50_row H n hn, H.len, H.h, select_slt, word_toInt n hn]

theorem b57_row (H : Holds s w xs L a h c) (n : ℕ) (hn : n < 20) (j : Fin 128) :
    b57 n s (ix2 a j) = if (n : ℤ) < L.toInt then Cert.Rows.cNext w (xs n) h c j else c j := by
  pointwise [b57, b56, b53, b52, b51, b5_apply s n hn, b40_row H n hn, H.len, H.c, select_slt, word_toInt n hn]

/-- A step keeps what it reads and advances the state. -/
theorem Holds.step (n : ℕ) (hn : n < 20) (H : Holds s w xs L a (Cert.Rows.masked w xs L.toInt n).1 (Cert.Rows.masked w xs L.toInt n).2) :
    Holds (Cert.ReferenceIdeal.Step.step n s) w xs L a (Cert.Rows.masked w xs L.toInt (n + 1)).1 (Cert.Rows.masked w xs L.toInt (n + 1)).2 where
  x := H.x
  wi := H.wi
  wh := H.wh
  bi := H.bi
  bh := H.bh
  len := H.len
  h j := by rw [step_main_v8_8, b55_row H n hn, Cert.Rows.masked]; split_ifs <;> rfl
  c j := by rw [step_main_v8_9, b57_row H n hn, Cert.Rows.masked]; split_ifs <;> rfl

end Cert.ReferenceIdeal.Hand
end
-- ==== Proof.RefValue.lean ====
module

public import proofs.«01_k».proof.Proof.RefStep
public import proofs.«01_k».proof.Proof.Gen.ReferenceIdeal.StepRun

@[expose] public section

noncomputable section

/-! The reference's result as a function of the arguments. -/

namespace Cert.ReferenceIdeal.Hand

open Idealize.ShloMosaic Idealize.ShloMosaic.TcCoe Cert.ReferenceIdeal.Gen Cert.ReferenceIdeal.Step

/-! ## After the scan -/

/-- The rectified linear layer. -/
def word (x : FVec Ideal S8x512x128 .f32) (w : FVec Ideal S128x128 .f32) (b : FVec Ideal S128 .f32) : FVec Ideal S4096x128 .f32 :=
  maximumf (addf (Host.dotGeneral dot_S4096x128_S128x128_S4096x128_1_1_0_0_n_n none (shapeCast _ x shapeCasts_S8x512x128_S4096x128) w)
    (broadcastInDim S4096x128 ![0, 1] bcast_S1x128_S4096x128_0_1 (broadcastInDim S1x128 ![1] bcast_S128_S1x128_1 b)))
    (broadcastInDim S4096x128 ![] bcast_S_S4096x128 (constant S_ .f32 0x00000000#32))

/-- The dense layer on the two halves side by side. -/
def dense (p h : FVec Ideal S4096x128 .f32) (w : FVec Ideal S256x256 .f32) (b : FVec Ideal S256 .f32) : FVec Ideal S4096x256 .f32 :=
  addf (Host.dotGeneral dot_S4096x256_S256x256_S4096x256_1_1_0_0_n_n none
      (concatenate S4096x256 1 [⟨S4096x128, p⟩, ⟨S4096x128, h⟩] concatenates_S4096x128_S4096x128_S4096x256_d1) w)
    (broadcastInDim S4096x256 ![0, 1] bcast_S1x256_S4096x256_0_1 (broadcastInDim S1x256 ![1] bcast_S256_S1x256_1 b))

/-- The mean of each row. -/
def rowMean (u : FVec Ideal S4096x256 .f32) : FVec Ideal S4096x1 .f32 :=
  Host.divf (broadcastInDim S4096x1 ![0] bcast_S4096_S4096x1_0 (Host.reduceAdd u (constant S_ .f32 0x00000000#32) reducesTo_S4096x256_S4096_d1 h_S_))
    (broadcastInDim S4096x1 ![] bcast_S_S4096x1 (constant S_ .f32 0x43800000#32))

/-- Each row less its mean. -/
def centre (u : FVec Ideal S4096x256 .f32) : FVec Ideal S4096x256 .f32 :=
  subf u (broadcastInDim S4096x256 ![0, 1] bcast_S4096x1_S4096x256_0_1 (rowMean u))

/-- The normalised rows, scaled and shifted. -/
def norm (u : FVec Ideal S4096x256 .f32) (g b : FVec Ideal S256 .f32) : FVec Ideal S4096x256 .f32 :=
  addf (mulf (Host.divf (centre u) (broadcastInDim S4096x256 ![0, 1] bcast_S4096x1_S4096x256_0_1
      (Host.sqrt (addf (rowMean (mulf (centre u) (centre u))) (broadcastInDim S4096x1 ![] bcast_S_S4096x1 (constant S_ .f32 0x3727C5AC#32))))))
    (broadcastInDim S4096x256 ![0, 1] bcast_S1x256_S4096x256_0_1 (broadcastInDim S1x256 ![1] bcast_S256_S1x256_1 g)))
    (broadcastInDim S4096x256 ![0, 1] bcast_S1x256_S4096x256_0_1 (broadcastInDim S1x256 ![1] bcast_S256_S1x256_1 b))

theorem result_eq (s : State Ideal) (a0 : FVec Ideal S8x512x128 .f32) (a3 : FVec Ideal S128x128 .f32) (a4 : FVec Ideal S128 .f32)
    (a9 : FVec Ideal S256x256 .f32) (a10 a11 a12 : FVec Ideal S256 .f32) :
    R_main_v43 s a0 a3 a4 a9 a10 a11 a12 = norm (dense (word a0 a3 a4) s.main_v8_8 a9 a10) a11 a12 := rfl

theorem word_apply (x : FVec Ideal S8x512x128 .f32) (w : FVec Ideal S128x128 .f32) (b : FVec Ideal S128 .f32) (a : Fin 4096) (j : Fin 128) :
    word x w b (ix2 a j) = Cert.Rows.relu (fun i => x (ix3 (Cert.Rows.Args.hi a) (Cert.Rows.Args.lo a) i)) (fun j i => w (ix2 j i)) (fun j => b (ix1 j)) j := by
  pointwise [word, Cert.Rows.relu]; rfl

theorem dense_apply (p h : FVec Ideal S4096x128 .f32) (w : FVec Ideal S256x256 .f32) (b : FVec Ideal S256 .f32) (a : Fin 4096) (k : Fin 256) :
    dense p h w b (ix2 a k) = Cert.Rows.linear (Cert.Rows.beside (fun j => p (ix2 a j)) (fun j => h (ix2 a j)))
      (fun k i => w (ix2 k i)) (fun k => b (ix1 k)) k := by
  pointwise [dense, Cert.Rows.linear, Cert.Rows.beside]

theorem centre_apply (u : FVec Ideal S4096x256 .f32) (a : Fin 4096) (k : Fin 256) :
    centre u (ix2 a k) = Cert.Rows.away (fun k => u (ix2 a k)) k := by
  pointwise [centre, rowMean, Cert.Rows.away, Cert.Rows.mean]

theorem norm_apply (u : FVec Ideal S4096x256 .f32) (g b : FVec Ideal S256 .f32) (a : Fin 4096) (k : Fin 256) :
    norm u g b (ix2 a k) = Cert.Rows.layerNorm (fun k => u (ix2 a k)) (fun k => g (ix1 k)) (fun k => b (ix1 k)) k := by
  pointwise [norm, centre_apply, rowMean, Cert.Rows.layerNorm, Cert.Rows.spread, Cert.Rows.mean]

/-! ## The scan -/

variable (m : (ℓ : Loc nD τ sig) → Buf (Elt Ideal) ℓ)

/-- The arguments as they lie in memory. -/
def args (c : Dev nD) : Cert.Rows.Args where
  xr := m ((c : Thread nD τ).loc main_arg0)
  xw := m ((c : Thread nD τ).loc main_arg1)
  xn := m ((c : Thread nD τ).loc main_arg2)
  wr := m ((c : Thread nD τ).loc main_arg3)
  br := m ((c : Thread nD τ).loc main_arg4)
  wih := m ((c : Thread nD τ).loc main_arg5)
  whh := m ((c : Thread nD τ).loc main_arg6)
  bih := m ((c : Thread nD τ).loc main_arg7)
  bhh := m ((c : Thread nD τ).loc main_arg8)
  wc := m ((c : Thread nD τ).loc main_arg9)
  bc := m ((c : Thread nD τ).loc main_arg10)
  gamma := m ((c : Thread nD τ).loc main_arg11)
  beta := m ((c : Thread nD τ).loc main_arg12)

/-- The scan's values after `n` steps. -/
def scan (c : Dev nD) : ℕ → State Ideal
  | 0 => StepRun.initState m c
  | n + 1 => step n (scan c n)

theorem chars_apply (x : FVec Ideal S8x512x20x64 .f32) (l : IVec S8x512x4 32) (n : Fin 20) (a : Fin 4096) (i : Fin 64) :
    A_main_v6 (F := Ideal) x l (ix3 n a i) = x (ix4 (Cert.Rows.Args.hi a) (Cert.Rows.Args.lo a) n i) := by
  pointwise [A_main_v6, A_main_v0]; rfl

theorem len_apply (x : FVec Ideal S8x512x20x64 .f32) (l : IVec S8x512x4 32) (a : Fin 4096) :
    A_main_v3 (F := Ideal) x l (ix1 a) = l (ix3 (Cert.Rows.Args.hi a) (Cert.Rows.Args.lo a) 3) := by
  pointwise [A_main_v3, A_main_v2, A_main_v1]; rfl

theorem scan_row (c : Dev nD) (a : Fin 4096) (n : ℕ) (hn : n ≤ 20) :
    Holds (scan m c n) (args m c).lstm ((args m c).chars a) ((args m c).len a) a
      (Cert.Rows.masked (args m c).lstm ((args m c).chars a) ((args m c).len a).toInt n).1
      (Cert.Rows.masked (args m c).lstm ((args m c).chars a) ((args m c).len a).toInt n).2 := by
  induction n with
  | zero =>
    refine ⟨fun n hn i => ?_, fun k i => rfl, fun k j => rfl, fun k => rfl, fun k => rfl, ?_, fun j => ?_, fun j => ?_⟩
    · refine (chars_apply (args m c).xw (args m c).xn ⟨n, hn⟩ a i).trans ?_
      rw [Cert.Rows.Args.chars]
      exact congrArg (fun q => (args m c).xw (ix4 _ _ q i)) (Fin.ext (Nat.mod_eq_of_lt hn).symm)
    · exact len_apply (args m c).xw (args m c).xn a
    · show K_main_v4 (F := Ideal) (ix2 a j) = 0
      pointwise [K_main_v4, K_main_cst]
    · show K_main_v5 (F := Ideal) (ix2 a j) = 0
      pointwise [K_main_v5, K_main_cst_0]
  | succ n ih => exact (ih (by omega)).step n (by omega)

theorem eq_ix2_4096 (j : S4096x256.Idx) : j = ix2 (j 0) (j 1) := by
  funext a; fin_cases a <;> rfl

/-- The reference's result array. -/
theorem final (c : Dev nD) : R_main_v43 (scan m c 20) (args m c).xr (args m c).wr (args m c).br (args m c).wc (args m c).bc
    (args m c).gamma (args m c).beta = (args m c).viaMask := by
  funext j
  obtain ⟨a, k, rfl⟩ : ∃ (a : Fin 4096) (k : Fin 256), j = (ix2 a k : S4096x256.Idx) := ⟨j 0, j 1, eq_ix2_4096 j⟩
  have e : ∀ j, (scan m c 20).main_v8_8 (ix2 a j) = _ := (scan_row m c a 20 le_rfl).h
  rw [result_eq, norm_apply]
  simp only [dense_apply, word_apply, e]
  rfl

end Cert.ReferenceIdeal.Hand
end
-- ==== Proof.Equation.lean ====
module

public import proofs.«01_k».proof.Defs
public import proofs.«01_k».proof.Proof.KernelFinal
public import proofs.«01_k».proof.Proof.RefValue
public import proofs.«01_k».proof.Proof.Gen.KernelIdeal.Frame
public import proofs.«01_k».proof.Proof.Gen.Pre_lengths_at_most_20

@[expose] public section

noncomputable section

/-! The two runs put together: what the precondition says, the reference's frame, and the equation of the results. -/

namespace Cert.Equation

open Idealize.ShloMosaic Idealize.SL.Sem

/-- The precondition's function at one place compares that word's length with 20. -/
theorem pre_at (x0 x1 x2 x3 x4 x5 x6 x7 x8 x9 x10 x11 x12) (i : Fin 8) (j : Fin 512) :
    Cert.Pre_lengths_at_most_20.fn (F := Ideal) x0 x1 x2 x3 x4 x5 x6 x7 x8 x9 x10 x11 x12 (ix2 i j) =
      IntOp.cmpi .sle (x2 (ix3 i j 3)) 20#32 := by
  pointwise [Cert.Pre_lengths_at_most_20.fn]

/-- A signed comparison that holds, read on the integers. -/
theorem toInt_le_of_sle (x : BitVec 32) (h : IntOp.cmpi .sle x 20#32 = 1#1) : x.toInt ≤ 20 := by
  by_contra hn
  have : BitVec.sle x 20#32 = false := by
    simp only [BitVec.sle, decide_eq_false_iff_not]
    simpa using hn
  simp [IntOp.cmpi, this] at h

/-- Under the precondition every length is at most 20. -/
theorem len_le (m : (ℓ : Loc Cert.KernelIdeal.nD Cert.KernelIdeal.τ Cert.KernelIdeal.sig) → Buf (Elt Ideal) ℓ)
    (h : Cert.Pre_KernelIdeal_lengths_at_most_20 m) (c : Dev Cert.KernelIdeal.nD) (a : Fin 4096) :
    ((Cert.KernelIdeal.Hand.args m c).len a).toInt ≤ 20 :=
  toInt_le_of_sle _ ((pre_at _ _ _ _ _ _ _ _ _ _ _ _ _ _ _).symm.trans
    (congrFun (h c) (ix2 (Cert.Rows.Args.hi a) (Cert.Rows.Args.lo a))))

/-- The reference terminates with its arguments unchanged and no semaphore raised. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.StepRun.run_iter m ρ (Cert.ReferenceIdeal.Hand.scan m) (fun _ => rfl) (fun _ _ => rfl))

/-- Equal arguments: the two programs' records of them are one. -/
theorem args_eq
    (A B : Cert.Rows.Args) (h0 : A.xr = B.xr) (h1 : A.xw = B.xw) (h2 : A.xn = B.xn) (h3 : A.wr = B.wr) (h4 : A.br = B.br)
    (h5 : A.wih = B.wih) (h6 : A.whh = B.whh) (h7 : A.bih = B.bih) (h8 : A.bhh = B.bhh) (h9 : A.wc = B.wc) (h10 : A.bc = B.bc)
    (h11 : A.gamma = B.gamma) (h12 : A.beta = B.beta) : A = B := by
  cases A; cases B; simp_all

/-- The two results are equal where every length is at most 20. -/
theorem algebraic : Cert.algebraic_KernelIdeal_ReferenceIdeal_pre_lengths_at_most_20 := by
  intro m g m' g' hpre hagree
  refine ⟨fun c => (Cert.KernelIdeal.Hand.args m c).viaMask, ?_, ?_⟩
  · refine (θ_run _ _ _).mono (fun _ h c => ⟨(h c).1.trans ?_, (h c).2⟩) (Cert.KernelIdeal.Value.run_blocks m g)
    exact (Cert.KernelIdeal.Hand.final12 m c).trans (Cert.Rows.Args.viaPick_eq _ (len_le m hpre c))
  · refine (θ_run _ _ _).mono (fun _ h c => ⟨(h c).1.trans ?_, (h c).2⟩)
      (Cert.ReferenceIdeal.StepRun.run_iter m' g' (Cert.ReferenceIdeal.Hand.scan m') (fun _ => rfl) (fun _ _ => rfl))
    refine (Cert.ReferenceIdeal.Hand.final m' c).trans (congrArg Cert.Rows.Args.viaMask ?_)
    obtain ⟨h0, h1, h2, h3, h4, h5, h6, h7, h8, h9, h10, h11, h12⟩ := hagree c
    exact args_eq _ _ h0 h1 h2 h3 h4 h5 h6 h7 h8 h9 h10 h11 h12

end Cert.Equation

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_lengths_at_most_20
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_lengths_at_most_20.Gen.facts,
  fun m ρ _ => Cert.Kernel.Gen.frame m ρ,
  fun m ρ _ => Cert.KernelIdeal.Gen.frame m ρ,
  fun m ρ _ => Cert.KernelIdeal.Gen.frame m ρ,
  Cert.Equation.frame_reference,
  fun m ρ _ => Cert.Equation.frame_reference m ρ trivial,
  trivial,
  Cert.Equation.algebraic⟩

end Cert.Proof

end
